-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4096x200x64 : Shape := ⟨3, ![4096, 200, 64]⟩
abbrev S4096x1x64 : Shape := ⟨3, ![4096, 1, 64]⟩
abbrev S4096 : Shape := ⟨1, ![4096]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S4096x200x64 : S_.BroadcastsInDim S4096x200x64 (![] : Fin 0 → Fin S4096x200x64.rank)
  bcast_S_S4096x1x64 : S_.BroadcastsInDim S4096x1x64 (![] : Fin 0 → Fin S4096x1x64.rank)
  bcast_S_S4096 : S_.BroadcastsInDim S4096 (![] : Fin 0 → Fin S4096.rank)
  bcast_S_S256x128 : S_.BroadcastsInDim S256x128 (![] : Fin 0 → Fin S256x128.rank)
  bcast_S_S128 : S_.BroadcastsInDim S128 (![] : Fin 0 → Fin S128.rank)
  bcast_S_S128x1 : S_.BroadcastsInDim S128x1 (![] : Fin 0 → Fin S128x1.rank)
  bcast_S_S1 : S_.BroadcastsInDim S1 (![] : Fin 0 → Fin S1.rank)

variable [Facts]

def fn_part1 {F : FTy → Type} [FloatOps F] (main_v2 : IVec S4096x200x64 1) (main_v5 : IVec S4096x1x64 1) (main_v7 : IVec S4096 1) (main_v10 : IVec S256x128 1) (main_v13 : IVec S128 1) (main_v16 : IVec S128x1 1) (main_v17 : FVec F S1 .f32) : IVec S4096x200x64 1 × IVec S4096x1x64 1 × IVec S4096 1 × IVec S256x128 1 × IVec S128 1 × IVec S128x1 1 × IVec S1 1 :=
  let main_cst_4 : FVec F S_ .f32 := constant S_ .f32 0x7F800000#32
  let main_v18 : FVec F S1 .f32 := broadcastInDim S1 ![] bcast_S_S1 main_cst_4
  let main_v19 : IVec S1 1 := cmpf .olt main_v17 main_v18
  (main_v2, main_v5, main_v7, main_v10, main_v13, main_v16, main_v19)

def fn {F : FTy → Type} [FloatOps F] (main_arg0 : FVec F S4096x200x64 .f32) (main_arg1 : FVec F S4096x1x64 .f32) (main_arg2 : IVec S4096 32) (main_arg3 : FVec F S256x128 .f32) (main_arg4 : FVec F S128 .f32) (main_arg5 : FVec F S128x1 .f32) (main_arg6 : FVec F S1 .f32) : IVec S4096x200x64 1 × IVec S4096x1x64 1 × IVec S4096 1 × IVec S256x128 1 × IVec S128 1 × IVec S128x1 1 × IVec S1 1 :=
  let main_v0 : FVec F S4096x200x64 .f32 := Host.absf main_arg0
  let main_cst : FVec F S_ .f32 := constant S_ .f32 0x7F800000#32
  let main_v1 : FVec F S4096x200x64 .f32 := broadcastInDim S4096x200x64 ![] bcast_S_S4096x200x64 main_cst
  let main_v2 : IVec S4096x200x64 1 := cmpf .olt main_v0 main_v1
  let main_v3 : FVec F S4096x1x64 .f32 := Host.absf main_arg1
  let main_cst_0 : FVec F S_ .f32 := constant S_ .f32 0x7F800000#32
  let main_v4 : FVec F S4096x1x64 .f32 := broadcastInDim S4096x1x64 ![] bcast_S_S4096x1x64 main_cst_0
  let main_v5 : IVec S4096x1x64 1 := cmpf .olt main_v3 main_v4
  let main_c : IVec S_ 32 := constantI S_ 32 0#32
  let main_v6 : IVec S4096 32 := broadcastInDim S4096 ![] bcast_S_S4096 main_c
  let main_v7 : IVec S4096 1 := cmpi .sge main_arg2 main_v6
  let main_v8 : FVec F S256x128 .f32 := Host.absf main_arg3
  let main_cst_1 : FVec F S_ .f32 := constant S_ .f32 0x7F800000#32
  let main_v9 : FVec F S256x128 .f32 := broadcastInDim S256x128 ![] bcast_S_S256x128 main_cst_1
  let main_v10 : IVec S256x128 1 := cmpf .olt main_v8 main_v9
  let main_v11 : FVec F S128 .f32 := Host.absf main_arg4
  let main_cst_2 : FVec F S_ .f32 := constant S_ .f32 0x7F800000#32
  let main_v12 : FVec F S128 .f32 := broadcastInDim S128 ![] bcast_S_S128 main_cst_2
  let main_v13 : IVec S128 1 := cmpf .olt main_v11 main_v12
  let main_v14 : FVec F S128x1 .f32 := Host.absf main_arg5
  let main_cst_3 : FVec F S_ .f32 := constant S_ .f32 0x7F800000#32
  let main_v15 : FVec F S128x1 .f32 := broadcastInDim S128x1 ![] bcast_S_S128x1 main_cst_3
  let main_v16 : IVec S128x1 1 := cmpf .olt main_v14 main_v15
  let main_v17 : FVec F S1 .f32 := Host.absf main_arg6
  fn_part1 (F := F) main_v2 main_v5 main_v7 main_v10 main_v13 main_v16 main_v17
-- ==== Kernel.lean ====
abbrev S4096x200x64 : Shape := ⟨3, ![4096, 200, 64]⟩
abbrev S4096x1x64 : Shape := ⟨3, ![4096, 1, 64]⟩
abbrev S4096 : Shape := ⟨1, ![4096]⟩
abbrev S256x128 : Shape := ⟨2, ![256, 128]⟩
abbrev S128 : Shape := ⟨1, ![128]⟩
abbrev S128x1 : Shape := ⟨2, ![128, 1]⟩
abbrev S1 : Shape := ⟨1, ![1]⟩
abbrev S200x64x4096 : Shape := ⟨3, ![200, 64, 4096]⟩
abbrev S1x64x4096 : Shape := ⟨3, ![1, 64, 4096]⟩
abbrev S1x4096 : Shape := ⟨2, ![1, 4096]⟩
abbrev S64x128 : Shape := ⟨2, ![64, 128]⟩
abbrev S128x64 : Shape := ⟨2, ![128, 64]⟩
abbrev S_ : Shape := ⟨0, ![]⟩
abbrev S128x7 : Shape := ⟨2, ![128, 7]⟩
abbrev S128x200 : Shape := ⟨2, ![128, 200]⟩
abbrev S64x4096 : Shape := ⟨2, ![64, 4096]⟩
abbrev S8x64x4096 : Shape := ⟨3, ![8, 64, 4096]⟩
abbrev S7x4096 : Shape := ⟨2, ![7, 4096]⟩
abbrev S72x4096 : Shape := ⟨2, ![72, 4096]⟩
abbrev S200x4096 : Shape := ⟨2, ![200, 4096]⟩
abbrev S128x4096 : Shape := ⟨2, ![128, 4096]⟩
abbrev S8x4096 : Shape := ⟨2, ![8, 4096]⟩
abbrev S4096x64 : Shape := ⟨2, ![4096, 64]⟩

abbrev nBuf : Space → Nat
  | .hbm => 27
  | .vmem => 8
  | .smem => 0
  | _ => 0

abbrev bufTy : (tb : Table) → Fin (tcTables nBuf tb) → BufTy
  | .hbm, ⟨0, _⟩ => ⟨S4096x200x64, .f32⟩
  | .hbm, ⟨1, _⟩ => ⟨S4096x1x64, .f32⟩
  | .hbm, ⟨2, _⟩ => ⟨S4096, .i32⟩
  | .hbm, ⟨3, _⟩ => ⟨S256x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S200x64x4096, .f32⟩
  | .hbm, ⟨8, _⟩ => ⟨S1x64x4096, .f32⟩
  | .hbm, ⟨9, _⟩ => ⟨S1x4096, .i32⟩
  | .hbm, ⟨10, _⟩ => ⟨S64x128, .f32⟩
  | .hbm, ⟨11, _⟩ => ⟨S64x128, .f32⟩
  | .hbm, ⟨12, _⟩ => ⟨S64x128, .f32⟩
  | .hbm, ⟨13, _⟩ => ⟨S64x128, .f32⟩
  | .hbm, ⟨14, _⟩ => ⟨S64x128, .f32⟩
  | .hbm, ⟨15, _⟩ => ⟨S64x128, .f32⟩
  | .hbm, ⟨16, _⟩ => ⟨S64x128, .f32⟩
  | .hbm, ⟨17, _⟩ => ⟨S128x64, .f32⟩
  | .hbm, ⟨18, _⟩ => ⟨S128x64, .f32⟩
  | .hbm, ⟨19, _⟩ => ⟨S128x64, .f32⟩
  | .hbm, ⟨20, _⟩ => ⟨S128x1, .f32⟩
  | .hbm, ⟨21, _⟩ => ⟨S_, .f32⟩
  | .hbm, ⟨22, _⟩ => ⟨S128x7, .f32⟩
  | .hbm, ⟨23, _⟩ => ⟨S128x200, .f32⟩
  | .hbm, ⟨24, _⟩ => ⟨S64x4096, .f32⟩
  | .hbm, ⟨25, _⟩ => ⟨S1x4096, .f32⟩
  | .hbm, ⟨26, _⟩ => ⟨S4096x64, .f32⟩
  | .local _ .vmem, ⟨0, _⟩ => ⟨S8x64x4096, .f32⟩
  | .local _ .vmem, ⟨1, _⟩ => ⟨S8x64x4096, .f32⟩
  | .local _ .vmem, ⟨2, _⟩ => ⟨S1x64x4096, .f32⟩
  | .local _ .vmem, ⟨3, _⟩ => ⟨S1x4096, .i32⟩
  | .local _ .vmem, ⟨4, _⟩ => ⟨S128x200, .f32⟩
  | .local _ .vmem, ⟨5, _⟩ => ⟨S128x1, .f32⟩
  | .local _ .vmem, ⟨6, _⟩ => ⟨S64x4096, .f32⟩
  | .local _ .vmem, ⟨7, _⟩ => ⟨S1x4096, .f32⟩
  | _, _ => ⟨S4096x200x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7

abbrev nD : Nat := 1
abbrev τ : Topo := Topo.v7x

variable {F : FTy → Type} [FloatOps F]

abbrev grid0 : Pipeline.Grid := ⟨1, ![25], ![false]⟩

def k0_cond1 (i : grid0.Coords) : BitVec 1 :=
  let arg0 : BitVec 32 := BitVec.ofNat 32 (i 0).val
  let c0_i32_78 : BitVec 32 := 0#32
  let v165 : BitVec 1 := Scalar.cmpi .eq arg0 c0_i32_78
  let v166 : BitVec 32 := Scalar.extui v165
  let c0_i32_79 : BitVec 32 := 0#32
  let v167 : BitVec 1 := Scalar.cmpi .ne v166 c0_i32_79
  v167

def k0_cond2 (i : grid0.Coords) : BitVec 1 :=
  let arg0 : BitVec 32 := BitVec.ofNat 32 (i 0).val
  let c0_i32_80 : BitVec 32 := 0#32
  let v168 : BitVec 1 := Scalar.cmpi .sgt arg0 c0_i32_80
  let v169 : BitVec 32 := Scalar.extui v168
  let c0_i32_81 : BitVec 32 := 0#32
  let v170 : BitVec 1 := Scalar.cmpi .ne v169 c0_i32_81
  v170

def k0_cond3 (i : grid0.Coords) : BitVec 1 :=
  let arg0 : BitVec 32 := BitVec.ofNat 32 (i 0).val
  let c24_i32 : BitVec 32 := 24#32
  let v171 : BitVec 1 := Scalar.cmpi .eq arg0 c24_i32
  let v172 : BitVec 32 := Scalar.extui v171
  let c0_i32_82 : BitVec 32 := 0#32
  let v173 : BitVec 1 := Scalar.cmpi .ne v172 c0_i32_82
  v173

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x200 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S4096x200x64 : Shape := ⟨3, ![4096, 200, 64]⟩
abbrev S4096x1x64 : Shape := ⟨3, ![4096, 1, 64]⟩
abbrev S4096 : Shape := ⟨1, ![4096]⟩
abbrev S256x128 : Shape := ⟨2, ![256, 128]⟩
abbrev S128 : Shape := ⟨1, ![128]⟩
abbrev S128x1 : Shape := ⟨2, ![128, 1]⟩
abbrev S1 : Shape := ⟨1, ![1]⟩
abbrev S4096x200x256 : Shape := ⟨3, ![4096, 200, 256]⟩
abbrev S4096x200x128 : Shape := ⟨3, ![4096, 200, 128]⟩
abbrev S1x1x128 : Shape := ⟨3, ![1, 1, 128]⟩
abbrev S_ : Shape := ⟨0, ![]⟩
abbrev S4096x200x1 : Shape := ⟨3, ![4096, 200, 1]⟩
abbrev S1x1x1 : Shape := ⟨3, ![1, 1, 1]⟩
abbrev S4096x200 : Shape := ⟨2, ![4096, 200]⟩
abbrev S200 : Shape := ⟨1, ![200]⟩
abbrev S1x200 : Shape := ⟨2, ![1, 200]⟩
abbrev S4096x1 : Shape := ⟨2, ![4096, 1]⟩
abbrev S4096x64 : Shape := ⟨2, ![4096, 64]⟩

abbrev nBuf : Space → Nat
  | .hbm => 57
  | .vmem => 0
  | .smem => 0
  | _ => 0

abbrev bufTy : (tb : Table) → Fin (tcTables nBuf tb) → BufTy
  | .hbm, ⟨0, _⟩ => ⟨S4096x200x64, .f32⟩
  | .hbm, ⟨1, _⟩ => ⟨S4096x1x64, .f32⟩
  | .hbm, ⟨2, _⟩ => ⟨S4096, .i32⟩
  | .hbm, ⟨3, _⟩ => ⟨S256x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S4096x200x64, .f32⟩
  | .hbm, ⟨8, _⟩ => ⟨S4096x200x64, .f32⟩
  | .hbm, ⟨9, _⟩ => ⟨S4096x200x64, .f32⟩
  | .hbm, ⟨10, _⟩ => ⟨S4096x200x256, .f32⟩
  | .hbm, ⟨11, _⟩ => ⟨S4096x200x128, .f32⟩
  | .hbm, ⟨12, _⟩ => ⟨S1x1x128, .f32⟩
  | .hbm, ⟨13, _⟩ => ⟨S4096x200x128, .f32⟩
  | .hbm, ⟨14, _⟩ => ⟨S4096x200x128, .f32⟩
  | .hbm, ⟨15, _⟩ => ⟨S_, .f32⟩
  | .hbm, ⟨16, _⟩ => ⟨S4096x200x128, .f32⟩
  | .hbm, ⟨17, _⟩ => ⟨S4096x200x128, .f32⟩
  | .hbm, ⟨18, _⟩ => ⟨S4096x200x1, .f32⟩
  | .hbm, ⟨19, _⟩ => ⟨S1x1x1, .f32⟩
  | .hbm, ⟨20, _⟩ => ⟨S4096x200x1, .f32⟩
  | .hbm, ⟨21, _⟩ => ⟨S4096x200x1, .f32⟩
  | .hbm, ⟨22, _⟩ => ⟨S4096x200, .f32⟩
  | .hbm, ⟨23, _⟩ => ⟨S200, .i32⟩
  | .hbm, ⟨24, _⟩ => ⟨S1x200, .i32⟩
  | .hbm, ⟨25, _⟩ => ⟨S4096x1, .i32⟩
  | .hbm, ⟨26, _⟩ => ⟨S4096x200, .i32⟩
  | .hbm, ⟨27, _⟩ => ⟨S4096x200, .i32⟩
  | .hbm, ⟨28, _⟩ => ⟨S4096x200, .i1⟩
  | .hbm, ⟨29, _⟩ => ⟨S_, .f32⟩
  | .hbm, ⟨30, _⟩ => ⟨S_, .f32⟩
  | .hbm, ⟨31, _⟩ => ⟨S4096x200, .f32⟩
  | .hbm, ⟨32, _⟩ => ⟨S4096x200, .f32⟩
  | .hbm, ⟨33, _⟩ => ⟨S4096x1, .i32⟩
  | .hbm, ⟨34, _⟩ => ⟨S_, .i32⟩
  | .hbm, ⟨35, _⟩ => ⟨S4096x1, .i32⟩
  | .hbm, ⟨36, _⟩ => ⟨S4096x1, .i1⟩
  | .hbm, ⟨37, _⟩ => ⟨S_, .f32⟩
  | .hbm, ⟨38, _⟩ => ⟨S_, .f32⟩
  | .hbm, ⟨39, _⟩ => ⟨S4096x200, .i1⟩
  | .hbm, ⟨40, _⟩ => ⟨S4096x200, .f32⟩
  | .hbm, ⟨41, _⟩ => ⟨S4096x200, .f32⟩
  | .hbm, ⟨42, _⟩ => ⟨S_, .f32⟩
  | .hbm, ⟨43, _⟩ => ⟨S4096, .f32⟩
  | .hbm, ⟨44, _⟩ => ⟨S_, .f32⟩
  | .hbm, ⟨45, _⟩ => ⟨S4096, .f32⟩
  | .hbm, ⟨46, _⟩ => ⟨S4096, .f32⟩
  | .hbm, ⟨47, _⟩ => ⟨S4096x1, .f32⟩
  | .hbm, ⟨48, _⟩ => ⟨S4096x200, .f32⟩
  | .hbm, ⟨49, _⟩ => ⟨S4096x200, .f32⟩
  | .hbm, ⟨50, _⟩ => ⟨S4096x200, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S4096x200, .f32⟩
  | .hbm, ⟨55, _⟩ => ⟨S4096x200, .f32⟩
  | .hbm, ⟨56, _⟩ => ⟨S4096x64, .f32⟩
  | _, _ => ⟨S4096x200x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_cst : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_call1_v0 : Ref sig .tc := ⟨.hbm, 30, rfl⟩
abbrev main_call1_v1 : Ref sig .tc := ⟨.hbm, 31, rfl⟩
abbrev main_v20 : Ref sig .tc := ⟨.hbm, 32, rfl⟩
abbrev main_v21 : Ref sig .tc := ⟨.hbm, 33, rfl⟩
abbrev main_c : Ref sig .tc := ⟨.hbm, 34, rfl⟩
abbrev main_v22 : Ref sig .tc := ⟨.hbm, 35, rfl⟩
abbrev main_v23 : Ref sig .tc := ⟨.hbm, 36, rfl⟩
abbrev main_cst_0 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_v24 : Ref sig .tc := ⟨.hbm, 41, rfl⟩
abbrev main_cst_1 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Proof.Rows.lean ====
module

public import proofs.«01_k».proof.Proof.Gen.KernelIdeal.Frame
public import Idealize.ShloMosaic.Lib.Pointwise

/-! The eight weights a block of eight positions gets, entry by entry: the score of a position is
one inner product over the 200 stacked rows per hidden unit, rectified, and weighted with `W2`. -/

@[expose] public section

set_option maxRecDepth 16384

noncomputable section

namespace Cert.KernelIdeal.Score

open Idealize.ShloMosaic Idealize.ShloMosaic.TcCoe Idealize.SL.Sem
open Cert.KernelIdeal Cert.KernelIdeal.Gen

/-- One column of the stacked block: the embedding, its product with the target, the target, a one,
and zeros. -/
def zcol (t x : Fin 64 → EReal) (k : Fin 200) : EReal :=
  if h : (k : ℕ) < 64 then x ⟨k, h⟩
  else if h : (k : ℕ) - 64 < 64 then x ⟨(k : ℕ) - 64, h⟩ * t ⟨(k : ℕ) - 64, h⟩
  else if h : (k : ℕ) - 64 - 64 < 64 then t ⟨(k : ℕ) - 64 - 64, h⟩
  else if _h : (k : ℕ) - 64 - 64 - 64 < 1 then 1 else 0

/-- The score the kernel gives one position, before the mask. -/
def rowScore (wf : FVec Ideal S128x200 .f32) (w2 : FVec Ideal S128x1 .f32) (t x : Fin 64 → EReal) :
    EReal :=
  ∑ h : Fin 128, max (∑ k : Fin 200, wf (ix2 h k) * zcol t x k) 0 * w2 (ix2 h 0)

/-- The weight of a position: the exponential of its score when it lies in the sequence, plus one
when the sequence is empty. -/
def weight (s : EReal) (p q : BitVec 32) : EReal :=
  Scalar.select (IntOp.cmpi .slt p q) (Ideal.exp s) 0 +
    Scalar.select (IntOp.cmpi .eq q 0#32) (1 : EReal) 0

/-- The eight rows of exponentials a block computes out of its eight loaded rows. -/
def expBlock (a0 : BitVec 32) (v0 : Vec Ideal S1x64x4096 .f32) (v3 : Vec Ideal S128x200 .f32)
    (v5 : Vec Ideal S128x1 .f32) (v6 : Vec Ideal S1x4096 .i32)
    (r0 r1 r2 r3 r4 r5 r6 r7 : Vec Ideal S1x64x4096 .f32) : FVec Ideal S8x4096 .f32 :=
  k0_pay16 a0 (k0_pay6 v0) (k0_pay7 v3) v5 (k0_pay8 v6) (k0_pay9 v0)
    (k0_pay10 v0 v3 v5 r0) (k0_pay11 v0 v3 v5 r1)
    (k0_pay12 (k0_pay6 v0) (k0_pay7 v3) v5 (k0_pay9 v0) r2)
    (k0_pay13 (k0_pay6 v0) (k0_pay7 v3) v5 (k0_pay9 v0) r3)
    (k0_pay14 (k0_pay6 v0) (k0_pay7 v3) v5 (k0_pay9 v0) r4)
    (k0_pay15 (k0_pay6 v0) (k0_pay7 v3) (k0_pay9 v0) r5) r6 r7

section
variable (v0 : Vec Ideal S1x64x4096 .f32) (v3 : Vec Ideal S128x200 .f32)
  (v5 : Vec Ideal S128x1 .f32) (v6 : Vec Ideal S1x4096 .i32)
  (r0 r1 r2 r3 r4 r5 r6 r7 : Vec Ideal S1x64x4096 .f32) (b : Fin 4096)

/-- The first row's score. -/
theorem pay10_at (i : Fin 1) : k0_pay10 v0 v3 v5 r0 (ix2 i b)
    = rowScore v3 v5 (fun e => v0 (ix3 0 e b)) (fun e => r0 (ix3 0 e b)) := by
  unfold rowScore zcol
  pointwise [k0_pay10, k0_pay6, k0_pay7, k0_pay9]

/-- The second row's score. -/
theorem pay11_at (i : Fin 1) : k0_pay11 v0 v3 v5 r1 (ix2 i b)
    = rowScore v3 v5 (fun e => v0 (ix3 0 e b)) (fun e => r1 (ix3 0 e b)) := by
  unfold rowScore zcol
  pointwise [k0_pay11, k0_pay6, k0_pay7, k0_pay9]

/-- The third row's score. -/
theorem pay12_at (i : Fin 1) :
    k0_pay12 (k0_pay6 v0) (k0_pay7 v3) v5 (k0_pay9 v0) r2 (ix2 i b)
    = rowScore v3 v5 (fun e => v0 (ix3 0 e b)) (fun e => r2 (ix3 0 e b)) := by
  unfold rowScore zcol
  pointwise [k0_pay12, k0_pay6, k0_pay7, k0_pay9]

/-- The fourth row's score. -/
theorem pay13_at (i : Fin 1) :
    k0_pay13 (k0_pay6 v0) (k0_pay7 v3) v5 (k0_pay9 v0) r3 (ix2 i b)
    = rowScore v3 v5 (fun e => v0 (ix3 0 e b)) (fun e => r3 (ix3 0 e b)) := by
  unfold rowScore zcol
  pointwise [k0_pay13, k0_pay6, k0_pay7, k0_pay9]

/-- The fifth row's score. -/
theorem pay14_at (i : Fin 1) :
    k0_pay14 (k0_pay6 v0) (k0_pay7 v3) v5 (k0_pay9 v0) r4 (ix2 i b)
    = rowScore v3 v5 (fun e => v0 (ix3 0 e b)) (fun e => r4 (ix3 0 e b)) := by
  unfold rowScore zcol
  pointwise [k0_pay14, k0_pay6, k0_pay7, k0_pay9]

/-- The sixth row's rectified hidden units. -/
theorem pay15_at (h : Fin 128) :
    k0_pay15 (k0_pay6 v0) (k0_pay7 v3) (k0_pay9 v0) r5 (ix2 h b)
    = max (∑ k : Fin 200, v3 (ix2 h k) *
        zcol (fun e => v0 (ix3 0 e b)) (fun e => r5 (ix3 0 e b)) k) 0 := by
  unfold zcol
  pointwise [k0_pay15, k0_pay6, k0_pay7, k0_pay9]

/-- The row loaded for the `r`-th position of the block. -/
def rowOf (r : Fin 8) : Vec Ideal S1x64x4096 .f32 :=
  match r with
  | 0 => r0 | 1 => r1 | 2 => r2 | 3 => r3 | 4 => r4 | 5 => r5 | 6 => r6 | 7 => r7

/-- The exponential row `r` of a block. -/
theorem expBlock_at (a0 : BitVec 32) (r : Fin 8) :
    expBlock a0 v0 v3 v5 v6 r0 r1 r2 r3 r4 r5 r6 r7 (ix2 r b)
      = Scalar.select (IntOp.cmpi .slt
          (IntOp.addi (BitVec.ofNat 32 (r : ℕ)) (Scalar.muli a0 8#32)) (v6 (ix2 0 b)))
        (Ideal.exp (rowScore v3 v5 (fun e => v0 (ix3 0 e b))
          (fun e => rowOf r0 r1 r2 r3 r4 r5 r6 r7 r (ix3 0 e b)))) 0 := by
  unfold expBlock
  generalize h10 : k0_pay10 v0 v3 v5 r0 = p0
  generalize h11 : k0_pay11 v0 v3 v5 r1 = p1
  generalize h12 : k0_pay12 (k0_pay6 v0) (k0_pay7 v3) v5 (k0_pay9 v0) r2 = p2
  generalize h13 : k0_pay13 (k0_pay6 v0) (k0_pay7 v3) v5 (k0_pay9 v0) r3 = p3
  generalize h14 : k0_pay14 (k0_pay6 v0) (k0_pay7 v3) v5 (k0_pay9 v0) r4 = p4
  generalize h15 : k0_pay15 (k0_pay6 v0) (k0_pay7 v3) (k0_pay9 v0) r5 = p5
  fin_cases r <;> pointwise [k0_pay16, k0_pay8, k0_pay6, k0_pay7, k0_pay9, rowOf]
  all_goals first
    | rfl
    | rw [← h10, pay10_at]
    | rw [← h11, pay11_at]
    | rw [← h12, pay12_at]
    | rw [← h13, pay13_at]
    | rw [← h14, pay14_at]
    | (simp only [← h15, pay15_at]; rfl)

/-- The empty-sequence part of the weights. -/
theorem pay17_at (r : Fin 8) : k0_pay17 (F := Ideal) (k0_pay8 (F := Ideal) v6) (ix2 r b)
    = Scalar.select (IntOp.cmpi .eq (v6 (ix2 0 b)) 0#32) (1 : EReal) 0 := by
  pointwise [k0_pay17, k0_pay8]
end

/-- Numerator of a block: each row times its weight, the eight added up. -/
theorem num_at (a c : FVec Ideal S8x4096 .f32) (r0 r1 r2 r3 r4 r5 r6 r7 : Vec Ideal S1x64x4096 .f32)
    (e : Fin 64) (b : Fin 4096) :
    k0_pay1 (k0_pay18 a c) (k0_pay19 a c r0 r1 r2 r3 r4 r5) (k0_pay20 r6) (k0_pay21 a c) r7 (ix2 e b)
      = ∑ r : Fin 8, rowOf r0 r1 r2 r3 r4 r5 r6 r7 r (ix3 0 e b) * (a (ix2 r b) + c (ix2 r b)) := by
  rw [Fin.sum_univ_eight]
  pointwise [k0_pay1, k0_pay18, k0_pay19, k0_pay20, k0_pay21, rowOf]

/-- Denominator of a block: the eight weights added up. -/
theorem den_at (a c : FVec Ideal S8x4096 .f32) (i : Fin 1) (b : Fin 4096) :
    k0_pay2 (k0_pay18 a c) (ix2 i b) = ∑ r : Fin 8, (a (ix2 r b) + c (ix2 r b)) := by
  pointwise [k0_pay2, k0_pay18]

end Cert.KernelIdeal.Score
-- ==== Proof.Block.lean ====
module

public import proofs.«01_k».proof.Proof.Rows
public import Idealize.ShloMosaic.Lib.Pipeline.Value
public import Idealize.ShloMosaic.Lib.Pipeline.ValueKit

/-! What the two result blocks hold after one grid point, entry by entry, in terms of what the
input blocks hold there and of what the result blocks held before. -/

@[expose] public section

set_option maxRecDepth 16384

noncomputable section

namespace Cert.KernelIdeal.Score

open Idealize.ShloMosaic Idealize.ShloMosaic.TcCoe Idealize.SL.Sem
open Cert.KernelIdeal Cert.KernelIdeal.Gen

/-- A two-axis rectangle starting at the origin. -/
theorem hz : (![0, 0] : Fin 2 → Nat) = fun _ => 0 := funext fun a => by fin_cases a <;> rfl

/-- A three-axis rectangle starting at the origin. -/
theorem hz3 : (![0, 0, 0] : Fin 3 → Nat) = fun _ => 0 := funext fun a => by fin_cases a <;> rfl

/-- The row of `x0` the kernel loads for the `r`-th position of a block. -/
def ldRow (x0 : Vec Ideal S8x64x4096 .f32) (r : Fin 8) : Vec Ideal S1x64x4096 .f32 :=
  fun y => x0 (ix3 r (y 1) (y 2))

/-- Weight of the `r`-th position of block `a0`. -/
def blockWeight (a0 : BitVec 32) (x0 : Vec Ideal S8x64x4096 .f32) (x1 : Vec Ideal S1x64x4096 .f32)
    (x2 : Vec Ideal S1x4096 .i32) (x3 : Vec Ideal S128x200 .f32) (x4 : Vec Ideal S128x1 .f32)
    (r : Fin 8) (b : Fin 4096) : EReal :=
  weight (rowScore x3 x4 (fun e => x1 (ix3 0 e b)) (fun e => x0 (ix3 r e b)))
    (IntOp.addi (BitVec.ofNat 32 (r : ℕ)) (Scalar.muli a0 8#32)) (x2 (ix2 0 b))

/-- What a block adds to the numerators. -/
def blockNum (a0 : BitVec 32) (x0 : Vec Ideal S8x64x4096 .f32) (x1 : Vec Ideal S1x64x4096 .f32)
    (x2 : Vec Ideal S1x4096 .i32) (x3 : Vec Ideal S128x200 .f32) (x4 : Vec Ideal S128x1 .f32)
    (e : Fin 64) (b : Fin 4096) : EReal :=
  ∑ r : Fin 8, x0 (ix3 r e b) * blockWeight a0 x0 x1 x2 x3 x4 r b

/-- What a block adds to the denominators. -/
def blockDen (a0 : BitVec 32) (x0 : Vec Ideal S8x64x4096 .f32) (x1 : Vec Ideal S1x64x4096 .f32)
    (x2 : Vec Ideal S1x4096 .i32) (x3 : Vec Ideal S128x200 .f32) (x4 : Vec Ideal S128x1 .f32)
    (b : Fin 4096) : EReal :=
  ∑ r : Fin 8, blockWeight a0 x0 x1 x2 x3 x4 r b

section
variable (x0 : Vec Ideal S8x64x4096 .f32) (x1 : Vec Ideal S1x64x4096 .f32)
  (x2 : Vec Ideal S1x4096 .i32) (x3 : Vec Ideal S128x200 .f32) (x4 : Vec Ideal S128x1 .f32)
  (x5 : Vec Ideal S64x4096 .f32) (x6 : Vec Ideal S1x4096 .f32)

/-- A loaded slab is the row of the block it starts at. -/
theorem ld_row (n : ℕ) (hn : n < 8)
    (h : ∀ a, (![n, 0, 0] : Fin 3 → ℕ) a + (![1, 64, 4096] : Fin 3 → ℕ) a ≤ S8x64x4096.size a) :
    View.ld x0 (Rect.unit ![n, 0, 0] ![1, 64, 4096] h) = ldRow x0 ⟨n, hn⟩ := by
  funext y
  show x0 _ = x0 _
  congr 1
  funext a
  apply Fin.ext
  match a with
  | 0 =>
    have : ((y 0 : Fin 1) : ℕ) < 1 := (y 0 : Fin 1).isLt
    show n + 1 * ((y 0 : Fin 1) : ℕ) = n
    omega
  | 1 => show 0 + 1 * ((y 1 : Fin 64) : ℕ) = ((y 1 : Fin 64) : ℕ); omega
  | 2 => show 0 + 1 * ((y 2 : Fin 4096) : ℕ) = ((y 2 : Fin 4096) : ℕ); omega

/-- The exponentials of a block whose rows come out of `x0`. -/
def expOf (a0 : BitVec 32) : FVec Ideal S8x4096 .f32 :=
  expBlock a0 x1 x3 x4 x2 (ldRow x0 0) (ldRow x0 1) (ldRow x0 2) (ldRow x0 3) (ldRow x0 4)
    (ldRow x0 5) (ldRow x0 6) (ldRow x0 7)

/-- The two parts of a weight add up to it. -/
theorem weight_at (a0 : BitVec 32) (r : Fin 8) (b : Fin 4096) :
    expOf x0 x1 x2 x3 x4 a0 (ix2 r b) + k0_pay17 (F := Ideal) (k0_pay8 (F := Ideal) x2) (ix2 r b)
      = blockWeight a0 x0 x1 x2 x3 x4 r b := by
  unfold expOf
  rw [expBlock_at, pay17_at]
  unfold blockWeight weight
  congr 4
  fin_cases r <;> rfl

/-- The numerators a block computes. -/
theorem blockNum_at (a0 : BitVec 32) (e : Fin 64) (b : Fin 4096) :
    k0_pay1 (k0_pay18 (expOf x0 x1 x2 x3 x4 a0) (k0_pay17 (k0_pay8 (F := Ideal) x2)))
      (k0_pay19 (expOf x0 x1 x2 x3 x4 a0) (k0_pay17 (k0_pay8 (F := Ideal) x2)) (ldRow x0 0)
        (ldRow x0 1) (ldRow x0 2) (ldRow x0 3) (ldRow x0 4) (ldRow x0 5))
      (k0_pay20 (ldRow x0 6))
      (k0_pay21 (expOf x0 x1 x2 x3 x4 a0) (k0_pay17 (k0_pay8 (F := Ideal) x2))) (ldRow x0 7) (ix2 e b)
      = blockNum a0 x0 x1 x2 x3 x4 e b := by
  rw [num_at]
  unfold blockNum
  refine Finset.sum_congr rfl fun r _ => ?_
  rw [weight_at]
  congr 1
  fin_cases r <;> rfl

/-- The denominators a block computes. -/
theorem blockDen_at (a0 : BitVec 32) (i : Fin 1) (b : Fin 4096) :
    k0_pay2 (k0_pay18 (expOf x0 x1 x2 x3 x4 a0) (k0_pay17 (k0_pay8 (F := Ideal) x2))) (ix2 i b)
      = blockDen a0 x0 x1 x2 x3 x4 b := by
  rw [den_at]
  exact Finset.sum_congr rfl fun r _ => weight_at x0 x1 x2 x3 x4 a0 r b
end

section
variable (c : Dev nD) (i : grid0.Coords)
  (arg1 : Memref sig .tc .vmem S8x64x4096 .f32) (harg1 : arg1.IsWhole)
  (arg2 : Memref sig .tc .vmem S1x64x4096 .f32) (harg2 : arg2.IsWhole)
  (arg3 : Memref sig .tc .vmem S1x4096 .i32) (harg3 : arg3.IsWhole)
  (arg4 : Memref sig .tc .vmem S128x200 .f32) (harg4 : arg4.IsWhole)
  (arg5 : Memref sig .tc .vmem S128x1 .f32) (harg5 : arg5.IsWhole)
  (arg6 : Memref sig .tc .vmem S64x4096 .f32) (harg6 : arg6.IsWhole)
  (arg7 : Memref sig .tc .vmem S1x4096 .f32) (harg7 : arg7.IsWhole)
  (x0 : Vec Ideal S8x64x4096 .f32) (x1 : Vec Ideal S1x64x4096 .f32)
  (x2 : Vec Ideal S1x4096 .i32) (x3 : Vec Ideal S128x200 .f32) (x4 : Vec Ideal S128x1 .f32)
  (x5 : Vec Ideal S64x4096 .f32) (x6 : Vec Ideal S1x4096 .f32) (e : Fin 64) (k : Fin 1) (b : Fin 4096)

/-- The first point writes its own numerators. -/
theorem out_A_5 (hc0 : cond0_0 i) (hc1 : ¬cond0_1 i) (hc2 : ¬cond0_2 i) :
    out0_A_5 c i arg1 harg1 arg2 harg2 arg3 harg3 arg4 harg4 arg5 harg5 arg6 harg6 arg7 harg7 hc0 hc1
      hc2 x0 x1 x2 x3 x4 (ix2 e b) = blockNum (BitVec.ofNat 32 (i 0).val) x0 x1 x2 x3 x4 e b := by
  unfold out0_A_5
  rw [View.read_writes_eq_canon _ _ _ (cover0_A_5 c i arg1 harg1 arg2 harg2 arg3 harg3 arg4 harg4
    arg5 harg5 arg6 harg6 arg7 harg7 hc0 hc1 hc2 x0 x1 x2 x3 x4)]
  unfold kernelRun0_A
  dsimp only
  sl_unfold_words
  rw [View.canon_unit_zero hz]
  simp only [View.readAt_eq_ld, harg1.read_unread, harg2.read_unread, harg3.read_unread,
    harg4.read_unread, harg5.read_unread, View.ld_unit_zero (S := S1x64x4096) hz3,
    View.ld_unit_zero (S := S1x4096) hz, View.ld_unit_zero (S := S128x200) hz,
    View.ld_unit_zero (S := S128x1) hz, ld_row x0 0 (by decide), ld_row x0 1 (by decide),
    ld_row x0 2 (by decide), ld_row x0 3 (by decide), ld_row x0 4 (by decide),
    ld_row x0 5 (by decide), ld_row x0 6 (by decide), ld_row x0 7 (by decide)]
  exact blockNum_at x0 x1 x2 x3 x4 _ e b

/-- The first point writes its own denominators. -/
theorem out_A_6 (hc0 : cond0_0 i) (hc1 : ¬cond0_1 i) (hc2 : ¬cond0_2 i) :
    out0_A_6 c i arg1 harg1 arg2 harg2 arg3 harg3 arg4 harg4 arg5 harg5 arg6 harg6 arg7 harg7 hc0 hc1
      hc2 x0 x1 x2 x3 x4 (ix2 k b) = blockDen (BitVec.ofNat 32 (i 0).val) x0 x1 x2 x3 x4 b := by
  unfold out0_A_6
  rw [View.read_writes_eq_canon _ _ _ (cover0_A_6 c i arg1 harg1 arg2 harg2 arg3 harg3 arg4 harg4
    arg5 harg5 arg6 harg6 arg7 harg7 hc0 hc1 hc2 x0 x1 x2 x3 x4)]
  unfold kernelRun0_A
  dsimp only
  sl_unfold_words
  rw [View.canon_unit_zero hz]
  simp only [View.readAt_eq_ld, harg1.read_unread, harg2.read_unread, harg3.read_unread,
    harg4.read_unread, harg5.read_unread, View.ld_unit_zero (S := S1x64x4096) hz3,
    View.ld_unit_zero (S := S1x4096) hz, View.ld_unit_zero (S := S128x200) hz,
    View.ld_unit_zero (S := S128x1) hz, ld_row x0 0 (by decide), ld_row x0 1 (by decide),
    ld_row x0 2 (by decide), ld_row x0 3 (by decide), ld_row x0 4 (by decide),
    ld_row x0 5 (by decide), ld_row x0 6 (by decide), ld_row x0 7 (by decide)]
  exact blockDen_at x0 x1 x2 x3 x4 _ k b

/-- The addition of a block's numerators to the block before. -/
theorem pay3_at (p : FVec Ideal S8x4096 .f32) (q r : FVec Ideal S64x4096 .f32)
    (s : FVec Ideal S1x4096 .f32) (l : Vec Ideal S1x64x4096 .f32) :
    k0_pay3 p q r s l x5 (ix2 e b) = x5 (ix2 e b) + k0_pay1 p q r s l (ix2 e b) := by
  unfold k0_pay3
  simp only [shapeCast_self]
  rfl

/-- The addition of a block's denominators to the block before. -/
theorem pay4_at (p : FVec Ideal S8x4096 .f32) :
    k0_pay4 p x6 (ix2 k b) = x6 (ix2 k b) + k0_pay2 p (ix2 k b) := by
  unfold k0_pay4
  simp only [shapeCast_self]
  rfl

/-- A later point adds its numerators to those written before. -/
theorem out_B_5 (hc0 : ¬cond0_0 i) (hc1 : cond0_1 i) (hc2 : ¬cond0_2 i) :
    out0_B_5 c i arg1 harg1 arg2 harg2 arg3 harg3 arg4 harg4 arg5 harg5 arg6 harg6 arg7 harg7 hc0 hc1
      hc2 x0 x1 x2 x3 x4 x5 x6 (ix2 e b)
      = x5 (ix2 e b) + blockNum (BitVec.ofNat 32 (i 0).val) x0 x1 x2 x3 x4 e b := by
  unfold out0_B_5
  rw [View.read_writes_eq_canon _ _ _ (cover0_B_5 c i arg1 harg1 arg2 harg2 arg3 harg3 arg4 harg4
    arg5 harg5 arg6 harg6 arg7 harg7 hc0 hc1 hc2 x0 x1 x2 x3 x4 x5 x6)]
  unfold kernelRun0_B
  dsimp only
  sl_unfold_words
  rw [View.canon_unit_zero hz]
  simp only [View.readAt_eq_ld, harg1.read_unread, harg2.read_unread, harg3.read_unread,
    harg4.read_unread, harg5.read_unread, harg6.read_unread, harg7.read_unread,
    View.ld_unit_zero (S := S1x64x4096) hz3, View.ld_unit_zero (S := S64x4096) hz,
    View.ld_unit_zero (S := S1x4096) hz, View.ld_unit_zero (S := S128x200) hz,
    View.ld_unit_zero (S := S128x1) hz, ld_row x0 0 (by decide), ld_row x0 1 (by decide),
    ld_row x0 2 (by decide), ld_row x0 3 (by decide), ld_row x0 4 (by decide),
    ld_row x0 5 (by decide), ld_row x0 6 (by decide), ld_row x0 7 (by decide)]
  rw [pay3_at]
  exact congrArg (x5 (ix2 e b) + ·) (blockNum_at x0 x1 x2 x3 x4 _ e b)

/-- A later point adds its denominators to those written before. -/
theorem out_B_6 (hc0 : ¬cond0_0 i) (hc1 : cond0_1 i) (hc2 : ¬cond0_2 i) :
    out0_B_6 c i arg1 harg1 arg2 harg2 arg3 harg3 arg4 harg4 arg5 harg5 arg6 harg6 arg7 harg7 hc0 hc1
      hc2 x0 x1 x2 x3 x4 x5 x6 (ix2 k b)
      = x6 (ix2 k b) + blockDen (BitVec.ofNat 32 (i 0).val) x0 x1 x2 x3 x4 b := by
  unfold out0_B_6
  rw [View.read_writes_eq_canon _ _ _ (cover0_B_6 c i arg1 harg1 arg2 harg2 arg3 harg3 arg4 harg4
    arg5 harg5 arg6 harg6 arg7 harg7 hc0 hc1 hc2 x0 x1 x2 x3 x4 x5 x6)]
  unfold kernelRun0_B
  dsimp only
  sl_unfold_words
  rw [View.canon_unit_zero hz]
  simp only [View.readAt_eq_ld, harg1.read_unread, harg2.read_unread, harg3.read_unread,
    harg4.read_unread, harg5.read_unread, harg6.read_unread, harg7.read_unread,
    View.ld_unit_zero (S := S1x64x4096) hz3, View.ld_unit_zero (S := S64x4096) hz,
    View.ld_unit_zero (S := S1x4096) hz, View.ld_unit_zero (S := S128x200) hz,
    View.ld_unit_zero (S := S128x1) hz, ld_row x0 0 (by decide), ld_row x0 1 (by decide),
    ld_row x0 2 (by decide), ld_row x0 3 (by decide), ld_row x0 4 (by decide),
    ld_row x0 5 (by decide), ld_row x0 6 (by decide), ld_row x0 7 (by decide)]
  rw [pay4_at]
  exact congrArg (x6 (ix2 k b) + ·) (blockDen_at x0 x1 x2 x3 x4 _ k b)

/-- The closing product, entry by entry. -/
theorem pay5_at (u : FVec Ideal S64x4096 .f32) (v : FVec Ideal S1x4096 .f32) :
    k0_pay5 u v (ix2 e b) = u (ix2 e b) * Ideal.div 1 (v (ix2 0 b)) := by
  pointwise [k0_pay5]

/-- The last point adds its part and multiplies with the reciprocal of the denominators. -/
theorem out_C_5 (hc0 : ¬cond0_0 i) (hc1 : cond0_1 i) (hc2 : cond0_2 i) :
    out0_C_5 c i arg1 harg1 arg2 harg2 arg3 harg3 arg4 harg4 arg5 harg5 arg6 harg6 arg7 harg7 hc0 hc1
      hc2 x0 x1 x2 x3 x4 x5 x6 (ix2 e b)
      = (x5 (ix2 e b) + blockNum (BitVec.ofNat 32 (i 0).val) x0 x1 x2 x3 x4 e b) *
        Ideal.div 1 (x6 (ix2 0 b) + blockDen (BitVec.ofNat 32 (i 0).val) x0 x1 x2 x3 x4 b) := by
  unfold out0_C_5
  rw [View.read_writes_eq_canon _ _ _ (cover0_C_5 c i arg1 harg1 arg2 harg2 arg3 harg3 arg4 harg4
    arg5 harg5 arg6 harg6 arg7 harg7 hc0 hc1 hc2 x0 x1 x2 x3 x4 x5 x6)]
  unfold kernelRun0_C
  dsimp only
  sl_unfold_words
  rw [View.canon_cons_unit_zero (S := S64x4096) hz, View.readCov_unit_zero (S := S64x4096) _ hz,
    View.readCov_unit_zero (S := S1x4096) _ hz]
  simp only [View.readAt_eq_ld, harg1.read_unread, harg2.read_unread, harg3.read_unread,
    harg4.read_unread, harg5.read_unread, harg6.read_unread, harg7.read_unread,
    View.ld_unit_zero (S := S1x64x4096) hz3, View.ld_unit_zero (S := S64x4096) hz,
    View.ld_unit_zero (S := S1x4096) hz, View.ld_unit_zero (S := S128x200) hz,
    View.ld_unit_zero (S := S128x1) hz, ld_row x0 0 (by decide), ld_row x0 1 (by decide),
    ld_row x0 2 (by decide), ld_row x0 3 (by decide), ld_row x0 4 (by decide),
    ld_row x0 5 (by decide), ld_row x0 6 (by decide), ld_row x0 7 (by decide)]
  rw [pay5_at, pay3_at, pay4_at]
  refine congrArg₂ (fun p q : EReal => p * Ideal.div 1 q) ?_ ?_
  · exact congrArg (x5 (ix2 e b) + ·) (blockNum_at x0 x1 x2 x3 x4 _ e b)
  · exact congrArg (x6 (ix2 0 b) + ·) (blockDen_at x0 x1 x2 x3 x4 _ 0 b)
end

end Cert.KernelIdeal.Score
-- ==== Proof.Entry.lean ====
module

public import proofs.«01_k».proof.Proof.Gen.KernelIdeal.Frame
public import Idealize.ShloMosaic.Lib.Claim
public import Idealize.ShloMosaic.Lib.Pointwise
public import Idealize.ShloMosaic.Lib.StableHlo.Run
public import Idealize.ShloMosaic.Lib.Pipeline.Value
public import Idealize.ShloMosaic.Lib.Pipeline.ValueKit

/-! What the arrays of the kernel's windows hold when the kernel is entered, in terms of the
arguments: the two transposed embeddings, the lengths, and the folded weights. -/

@[expose] public section

set_option maxRecDepth 16384

noncomputable section

namespace Cert.KernelIdeal.Score

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The transposed behaviour embedding. -/
theorem V_v0 (l : Fin 200) (e : Fin 64) (b : Fin 4096) :
    V m c main_v0 (ix3 l e b) = m ((c : Thread nD τ).loc main_arg0) (ix3 b l e) := by
  have h : V m c main_v0 = transpose S200x64x4096 [1, 2, 0] (m ((c : Thread nD τ).loc main_arg0))
      transposes_S4096x200x64_S200x64x4096_1_2_0 := by
    show StableHlo.after hostOps0 _ (Proc.devRef .tc main_v0) = _
    after_results
  rw [h]
  pointwise []

/-- The transposed target embedding. -/
theorem V_v1 (e : Fin 64) (b : Fin 4096) :
    V m c main_v1 (ix3 0 e b) = m ((c : Thread nD τ).loc main_arg1) (ix3 b 0 e) := by
  have h : V m c main_v1 = transpose S1x64x4096 [1, 2, 0] (m ((c : Thread nD τ).loc main_arg1))
      transposes_S4096x1x64_S1x64x4096_1_2_0 := by
    show StableHlo.after hostOps0 _ (Proc.devRef .tc main_v1) = _
    after_results
  rw [h]
  pointwise []

/-- The lengths, as one row. -/
theorem V_v2 (b : Fin 4096) :
    V m c main_v2 (ix2 0 b) = m ((c : Thread nD τ).loc main_arg2) (ix1 b) := by
  have h : V m c main_v2 = shapeCast S1x4096 (m ((c : Thread nD τ).loc main_arg2))
      shapeCasts_S4096_S1x4096 := by
    show StableHlo.after hostOps0 _ (Proc.devRef .tc main_v2) = _
    after_results
    rfl
  rw [h]
  exact shapeCast_apply _ _ _ (ix1 b) (by
    rw [Shape.rowMajor_val_one, Shape.rowMajor_val_two]
    show (b : ℕ) = 0 * 4096 + (b : ℕ)
    omega)

/-- The folded first-layer weights, one row per hidden unit, out of `W1` and `b1`. -/
def foldW (w1 : Fin 256 → Fin 128 → EReal) (b1 : Fin 128 → EReal) (h : Fin 128) (k : Fin 200) :
    EReal :=
  if hk : (k : ℕ) < 64 then w1 ⟨k, by omega⟩ h + w1 ⟨192 + (k : ℕ), by omega⟩ h
  else if hk : (k : ℕ) - 64 < 64 then w1 ⟨128 + ((k : ℕ) - 64), by omega⟩ h
  else if hk : (k : ℕ) - 64 - 64 < 64 then
    w1 ⟨64 + ((k : ℕ) - 64 - 64), by omega⟩ h - w1 ⟨192 + ((k : ℕ) - 64 - 64), by omega⟩ h
  else if _h : (k : ℕ) - 64 - 64 - 64 < 1 then b1 h else 0

/-- The folded weights the kernel is entered with. -/
theorem V_v15 (h : Fin 128) (k : Fin 200) :
    V m c main_v15 (ix2 h k) = foldW (fun i j => m ((c : Thread nD τ).loc main_arg3) (ix2 i j))
      (fun j => m ((c : Thread nD τ).loc main_arg4) (ix1 j)) h k := by
  show StableHlo.after hostOps0 _ (Proc.devRef .tc main_v15) _ = _
  after_results
  unfold foldW
  pointwise []
  after_results_simp
  pointwise []

/-- The block of the embedding at point `t` starts at position `8 t`. -/
theorem index0_0 (t : Fin cfg0.N) :
    win0_0.index t 0 = (t : ℕ) ∧ win0_0.index t 1 = 0 ∧ win0_0.index t 2 = 0 := by
  revert t
  decide +kernel

/-- A block of the embedding at point `t`. -/
theorem iblk0_at (t : Fin cfg0.N) (r : Fin 8) (e : Fin 64) (b : Fin 4096)
    (h : 8 * (t : ℕ) + (r : ℕ) < 200) :
    (iblk m c 0 t : Vec Ideal S8x64x4096 .f32) (ix3 r e b)
      = V m c main_v0 (ix3 ⟨8 * (t : ℕ) + (r : ℕ), h⟩ e b) := by
  obtain ⟨h0, h1, h2⟩ := index0_0 t
  unfold iblk
  rw [View.read_apply]
  show V m c main_v0 _ = V m c main_v0 _
  congr 1
  funext a
  apply Fin.ext
  match a with
  | 0 => show win0_0.index t 0 * 8 + 1 * (r : ℕ) = 8 * (t : ℕ) + (r : ℕ); rw [h0]; omega
  | 1 => show win0_0.index t 1 * 64 + 1 * (e : ℕ) = (e : ℕ); rw [h1]; omega
  | 2 => show win0_0.index t 2 * 4096 + 1 * (b : ℕ) = (b : ℕ); rw [h2]; omega

/-- The target block is the whole target array. -/
theorem iblk1_at (t : Fin cfg0.N) (e : Fin 64) (b : Fin 4096) :
    (iblk m c 1 t : Vec Ideal S1x64x4096 .f32) (ix3 0 e b) = V m c main_v1 (ix3 0 e b) := by
  unfold iblk
  rw [View.read_apply]
  show V m c main_v1 _ = V m c main_v1 _
  congr 1
  funext a
  apply Fin.ext
  match a with
  | 0 => rfl
  | 1 => show 0 * 64 + 1 * (e : ℕ) = (e : ℕ); omega
  | 2 => show 0 * 4096 + 1 * (b : ℕ) = (b : ℕ); omega

/-- The block of lengths is the whole row of lengths. -/
theorem iblk2_at (t : Fin cfg0.N) (b : Fin 4096) :
    (iblk m c 2 t : Vec Ideal S1x4096 .i32) (ix2 0 b) = V m c main_v2 (ix2 0 b) := by
  unfold iblk
  rw [View.read_apply]
  show V m c main_v2 _ = V m c main_v2 _
  congr 1
  funext a
  apply Fin.ext
  match a with
  | 0 => rfl
  | 1 => show 0 * 4096 + 1 * (b : ℕ) = (b : ℕ); omega

/-- The block of folded weights is the whole array of them. -/
theorem iblk3_at (t : Fin cfg0.N) (h : Fin 128) (k : Fin 200) :
    (iblk m c 3 t : Vec Ideal S128x200 .f32) (ix2 h k) = V m c main_v15 (ix2 h k) := by
  unfold iblk
  rw [View.read_apply]
  show V m c main_v15 _ = V m c main_v15 _
  congr 1
  funext a
  apply Fin.ext
  match a with
  | 0 => show 0 * 128 + 1 * (h : ℕ) = (h : ℕ); omega
  | 1 => show 0 * 200 + 1 * (k : ℕ) = (k : ℕ); omega

/-- The block of second-layer weights is the whole argument. -/
theorem iblk4_at (t : Fin cfg0.N) (h : Fin 128) :
    (iblk m c 4 t : Vec Ideal S128x1 .f32) (ix2 h 0)
      = m ((c : Thread nD τ).loc main_arg5) (ix2 h 0) := by
  unfold iblk
  rw [View.read_apply]
  show V m c main_arg5 _ = _
  rw [V_main_arg5]
  congr 1
  funext a
  apply Fin.ext
  match a with
  | 0 => show 0 * 128 + 1 * (h : ℕ) = (h : ℕ); omega
  | 1 => rfl

end Cert.KernelIdeal.Score
-- ==== Proof.Fold.lean ====
module

public import proofs.«01_k».proof.Proof.Block
public import proofs.«01_k».proof.Proof.Entry

/-! The two result blocks after every grid point: partial sums over the blocks of positions, and at
the last point the weighted mean over all 200 positions. -/

@[expose] public section

set_option maxRecDepth 16384

noncomputable section

namespace Cert.KernelIdeal.Score

open Idealize.ShloMosaic Idealize.ShloMosaic.TcCoe Idealize.SL.Sem
open Cert.KernelIdeal Cert.KernelIdeal.Gen

section
variable (a0 : FVec Ideal S4096x200x64 .f32) (a1 : FVec Ideal S4096x1x64 .f32)
  (a2 : IVec S4096 32) (a3 : FVec Ideal S256x128 .f32) (a4 : FVec Ideal S128 .f32)
  (a5 : FVec Ideal S128x1 .f32)

/-- The score the kernel gives position `l` of sample `b`. -/
def kScore (b : Fin 4096) (l : Fin 200) : EReal :=
  ∑ h : Fin 128, max (∑ k : Fin 200, foldW (fun i j => a3 (ix2 i j)) (fun j => a4 (ix1 j)) h k *
    zcol (fun e => a1 (ix3 b 0 e)) (fun e => a0 (ix3 b l e)) k) 0 * a5 (ix2 h 0)

/-- The weight the kernel gives position `l` of sample `b`. -/
def kWeight (b : Fin 4096) (l : Fin 200) : EReal :=
  weight (kScore a0 a1 a3 a4 a5 b l) (BitVec.ofNat 32 (l : ℕ)) (a2 (ix1 b))

/-- Coordinate `e` of the kernel's result for sample `b`. -/
def kResult (b : Fin 4096) (e : Fin 64) : EReal :=
  (∑ l : Fin 200, a0 (ix3 b l e) * kWeight a0 a1 a2 a3 a4 a5 b l) *
    Ideal.div 1 (∑ l : Fin 200, kWeight a0 a1 a2 a3 a4 a5 b l)
end

/-- The position a block's row stands for. -/
theorem pos_eq (t r : ℕ) :
    IntOp.addi (BitVec.ofNat 32 r) (Scalar.muli (BitVec.ofNat 32 t) 8#32) = BitVec.ofNat 32 (t * 8 + r) := by
  show BitVec.ofNat 32 r + BitVec.ofNat 32 t * 8#32 = _
  rw [BitVec.ofNat_add, BitVec.ofNat_mul]
  exact BitVec.add_comm _ _

variable (m : (ℓ : Loc nD τ sig) → Buf (Elt Ideal) ℓ) (c : Dev nD)

/-- The weight of position `l` of sample `b`, out of the arguments. -/
abbrev mWeight (b : Fin 4096) (l : Fin 200) : EReal :=
  kWeight (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5)) b l

/-- Coordinate `e` of position `l` of sample `b`, out of the arguments. -/
abbrev mX (b : Fin 4096) (l : Fin 200) (e : Fin 64) : EReal :=
  (m ((c : Thread nD τ).loc main_arg0) : FVec Ideal S4096x200x64 .f32) (ix3 b l e)

/-- The only coordinate of a grid point is its number. -/
theorem coords_0 (t : Fin cfg0.N) : (grid0.coords t 0 : ℕ) = (t : ℕ) := by
  revert t
  decide +kernel

/-- The weights of a block, out of the arguments. -/
theorem blockWeight_eq (t : Fin cfg0.N) (r : Fin 8) (b : Fin 4096) (h : (t : ℕ) * 8 + (r : ℕ) < 200) :
    blockWeight (BitVec.ofNat 32 (grid0.coords t 0).val) (iblk m c 0 t) (iblk m c 1 t) (iblk m c 2 t)
      (iblk m c 3 t) (iblk m c 4 t) r b = mWeight m c b ⟨(t : ℕ) * 8 + (r : ℕ), h⟩ := by
  have h' : 8 * (t : ℕ) + (r : ℕ) < 200 := by omega
  have hx : ∀ e : Fin 64, (iblk m c 0 t : Vec Ideal S8x64x4096 .f32) (ix3 r e b)
      = m ((c : Thread nD τ).loc main_arg0) (ix3 b ⟨(t : ℕ) * 8 + (r : ℕ), h⟩ e) := by
    intro e
    rw [iblk0_at m c t r e b h', V_v0]
    congr 2
    exact Fin.ext (by dsimp only; omega)
  have ht : ∀ e : Fin 64, (iblk m c 1 t : Vec Ideal S1x64x4096 .f32) (ix3 0 e b)
      = m ((c : Thread nD τ).loc main_arg1) (ix3 b 0 e) := fun e => by rw [iblk1_at, V_v1]
  have hq : (iblk m c 2 t : Vec Ideal S1x4096 .i32) (ix2 0 b)
      = m ((c : Thread nD τ).loc main_arg2) (ix1 b) := by rw [iblk2_at, V_v2]
  have hs : rowScore (iblk m c 3 t) (iblk m c 4 t)
      (fun e => (iblk m c 1 t : Vec Ideal S1x64x4096 .f32) (ix3 0 e b))
      (fun e => (iblk m c 0 t : Vec Ideal S8x64x4096 .f32) (ix3 r e b))
      = kScore (m ((c : Thread nD τ).loc main_arg0)) (m ((c : Thread nD τ).loc main_arg1))
        (m ((c : Thread nD τ).loc main_arg3)) (m ((c : Thread nD τ).loc main_arg4))
        (m ((c : Thread nD τ).loc main_arg5)) b ⟨(t : ℕ) * 8 + (r : ℕ), h⟩ := by
    unfold rowScore kScore
    refine Finset.sum_congr rfl fun j _ => ?_
    rw [iblk4_at, funext hx, funext ht]
    congr 2
    refine Finset.sum_congr rfl fun k _ => ?_
    rw [iblk3_at, V_v15]
  unfold blockWeight mWeight kWeight
  rw [hs, hq, coords_0, pos_eq]

/-- What point `t` adds to the numerators. -/
def numAt (e : Fin 64) (b : Fin 4096) (t : ℕ) : EReal :=
  if h : t < 25 then ∑ r : Fin 8,
    mX m c b ⟨t * 8 + (r : ℕ), by have := r.isLt; omega⟩ e *
    mWeight m c b ⟨t * 8 + (r : ℕ), by have := r.isLt; omega⟩
  else 0

/-- What point `t` adds to the denominators. -/
def denAt (b : Fin 4096) (t : ℕ) : EReal :=
  if h : t < 25 then ∑ r : Fin 8, mWeight m c b ⟨t * 8 + (r : ℕ), by have := r.isLt; omega⟩
  else 0

/-- A block's numerators, out of the arguments. -/
theorem blockNum_eq (t : Fin cfg0.N) (e : Fin 64) (b : Fin 4096) :
    blockNum (BitVec.ofNat 32 (grid0.coords t 0).val) (iblk m c 0 t) (iblk m c 1 t) (iblk m c 2 t)
      (iblk m c 3 t) (iblk m c 4 t) e b = numAt m c e b (t : ℕ) := by
  have hN : cfg0.N = 25 := N_0
  have ht : (t : ℕ) < 25 := by have := t.isLt; omega
  unfold blockNum numAt
  rw [dif_pos ht]
  refine Finset.sum_congr rfl fun r _ => ?_
  have hr := r.isLt
  rw [blockWeight_eq m c t r b (by omega), iblk0_at m c t r e b (by omega), V_v0]
  congr 3
  exact Fin.ext (by dsimp only; omega)

/-- A block's denominators, out of the arguments. -/
theorem blockDen_eq (t : Fin cfg0.N) (b : Fin 4096) :
    blockDen (BitVec.ofNat 32 (grid0.coords t 0).val) (iblk m c 0 t) (iblk m c 1 t) (iblk m c 2 t)
      (iblk m c 3 t) (iblk m c 4 t) b = denAt m c b (t : ℕ) := by
  have hN : cfg0.N = 25 := N_0
  have ht : (t : ℕ) < 25 := by have := t.isLt; omega
  unfold blockDen denAt
  rw [dif_pos ht]
  refine Finset.sum_congr rfl fun r _ => ?_
  have hr := r.isLt
  rw [blockWeight_eq m c t r b (by omega)]

/-- Before the last point the result blocks hold the partial sums. -/
theorem outsAt_eq (e : Fin 64) (b : Fin 4096) : ∀ (n : ℕ) (h : n < cfg0.N), n < 24 →
    (outsAt0 m c n h).1 (ix2 e b) = ∑ t ∈ Finset.range (n + 1), numAt m c e b t ∧
    (outsAt0 m c n h).2 (ix2 0 b) = ∑ t ∈ Finset.range (n + 1), denAt m c b t
  | 0, h, _ => by
    rw [outsAt0_A m c ⟨0, h⟩ (by simp) (by simp) (by simp)]
    dsimp only
    rw [out_A_5, out_A_6, blockNum_eq, blockDen_eq]
    simp
  | n + 1, h, hn => by
    have hN : cfg0.N = 25 := N_0
    have ih := outsAt_eq e b n (Nat.lt_of_succ_lt h) (by omega)
    rw [outsAt0_B m c ⟨n + 1, h⟩ (by dsimp only; omega) (by dsimp only; omega)
      (by dsimp only; omega)]
    dsimp only
    rw [out_B_5, out_B_6, blockNum_eq, blockDen_eq]
    rw [Finset.sum_range_succ _ (n + 1), Finset.sum_range_succ _ (n + 1)]
    exact ⟨congrArg (· + _) ih.1, congrArg (· + _) ih.2⟩

/-- A sum over 25 blocks of eight is the sum over all 200 positions. -/
theorem sum_blocks (f : Fin 200 → EReal) (g : ℕ → EReal)
    (hg : ∀ t (h : t < 25), g t = ∑ r : Fin 8, f ⟨t * 8 + (r : ℕ), by have := r.isLt; omega⟩) :
    ∑ t ∈ Finset.range 25, g t = ∑ l : Fin 200, f l := by
  rw [Finset.sum_range, Fin.sum_univ_tiles 25 8 rfl f]
  exact Finset.sum_congr rfl fun t _ => hg t t.isLt

/-- After the last point the first result block holds the weighted means. -/
theorem outsAt_last (e : Fin 64) (b : Fin 4096) (h : 24 < cfg0.N) :
    (outsAt0 m c 24 h).1 (ix2 e b)
      = kResult (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) b e := by
  have ih := outsAt_eq m c e b 23 (Nat.lt_of_succ_lt h) (by decide)
  rw [outsAt0_C m c ⟨24, h⟩ (by simp) (by simp) (by simp)]
  dsimp only
  rw [out_C_5, blockNum_eq, blockDen_eq]
  show ((outsAt0 m c 23 _).1 (ix2 e b) + numAt m c e b 24) *
    Ideal.div 1 ((outsAt0 m c 23 _).2 (ix2 0 b) + denAt m c b 24) = _
  rw [ih.1, ih.2, ← Finset.sum_range_succ, ← Finset.sum_range_succ]
  unfold kResult
  rw [← sum_blocks (fun l => mX m c b l e * mWeight m c b l)
      (numAt m c e b) (fun t ht => by unfold numAt; rw [dif_pos ht]),
    ← sum_blocks (fun l => mWeight m c b l) (denAt m c b) (fun t ht => by unfold denAt; rw [dif_pos ht])]

end Cert.KernelIdeal.Score
-- ==== Proof.Result.lean ====
module

public import proofs.«01_k».proof.Proof.Fold

/-! The kernel program's result after every run: the first result array transposed, entry by entry
the weighted mean over the positions. -/

@[expose] public section

set_option maxRecDepth 16384

noncomputable section

namespace Cert.KernelIdeal.Score

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The last grid point. -/
def tLast : Fin cfg0.N := ⟨24, by rw [show cfg0.N = 25 from N_0]; decide⟩

/-- The first result array, after the last point. -/
def outArr : FVec Ideal S64x4096 .f32 := (outsAt0 m c tLast.val tLast.isLt).1

/-- The one write-back of the first result block writes the whole array. -/
theorem flushed_eq (t : Fin cfg0.N) (hf : (cfg0.win 5).flush t = true) :
    (dats m 0 c).flushed 5 t = ((cfg0.win 5).blk t).view.read (Elt Ideal) (outArr m c) := by
  have hN : cfg0.N = 25 := N_0
  have h24 : t.val = 24 := by have := (flush0_5 t).mp hf; have := t.isLt; omega
  obtain rfl : t = tLast := Fin.ext h24
  show (cfg0.win 5).cut (grid0.coords tLast) ((dats m 0 c).after 5 tLast) = _
  rw [after0_5]
  have hz' : (fun a => win0_5.index tLast a * main_v16_0.ty.shape.size a) = fun _ => 0 :=
    funext fun a => by fin_cases a <;> decide
  exact (Memref.read_access_unit_zero (Elt Ideal) main_v16_0 hz'
    (fun a => by rw [congrFun hz' a]; simp) (outArr m c)).symm

/-- So the array ends as the last point left its block. -/
theorem final_out : (dats m 0 c).arrAt 5 cfg0.N = outArr m c :=
  (dats m 0 c).arrAt_eq_of_cover 5 (outArr m c) (flushed_eq m c) fun i =>
    ⟨tLast, (flush0_5 tLast).mpr rfl, by
      show i ∈ ((View.whole main_v16_0).slice (win0_5.rect tLast)).set
      rw [View.set_slice_whole, Rect.mem_set_unit]
      intro a
      have h0 : (i 0 : Nat) < 64 := (i 0).isLt
      have h1 : (i 1 : Nat) < 4096 := (i 1).isLt
      match a with
      | ⟨0, _⟩ =>
        show win0_5.index tLast 0 * win0_5.size 0 ≤ (i 0 : Nat) ∧
          (i 0 : Nat) < win0_5.index tLast 0 * win0_5.size 0 + win0_5.xsize (grid0.coords tLast) 0
        rw [show win0_5.index tLast 0 * win0_5.size 0 = 0 from by decide +kernel,
          show win0_5.xsize (grid0.coords tLast) 0 = 64 from by decide +kernel]
        omega
      | ⟨1, _⟩ =>
        show win0_5.index tLast 1 * win0_5.size 1 ≤ (i 1 : Nat) ∧
          (i 1 : Nat) < win0_5.index tLast 1 * win0_5.size 1 + win0_5.xsize (grid0.coords tLast) 1
        rw [show win0_5.index tLast 1 * win0_5.size 1 = 0 from by decide +kernel,
          show win0_5.xsize (grid0.coords tLast) 1 = 4096 from by decide +kernel]
        omega⟩

/-- The result the program returns. -/
def outT : FVec Ideal S4096x64 .f32 :=
  transpose S4096x64 [1, 0] (outArr m c) transposes_S64x4096_S4096x64_1_0

/-- The returned array, entry by entry. -/
theorem outT_at (b : Fin 4096) (e : Fin 64) :
    outT m c (ix2 b e)
      = kResult (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) b e := by
  rw [← outsAt_last m c e b tLast.isLt]
  show outT m c (ix2 b e) = outArr m c (ix2 e b)
  pointwise [outT]

/-- What the line after the kernel leaves in the returned buffer. -/
theorem tail_eq : Pipeline.afterTail₀ cfgs (dats m) 0 (V0 m) [hostOps1] c main_v17 = outT m c := by
  show StableHlo.after hostOps1 _ (Proc.devRef .tc main_v17) = _
  after_results
  unfold outT
  refine congrArg (fun v => transpose S4096x64 [1, 0] v transposes_S64x4096_S4096x64_1_0) ?_
  refine (Pipeline.withArrays_arr cfg0.spec ?_ c _ _ 5).trans (final_out m c)
  decide

/-- Every run returns `outT` and leaves the arguments as they were. -/
theorem run (ρ : Dev nD → PrngReg) :
    θ_run defs (onTc (τ := τ) (main (F := Ideal))) ⟨m, fun _ => 0, ρ⟩ (fun r => ∀ c : Dev nD,
      r.2.mem ((c.tc : Thread nD τ).loc main_v17) = outT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono
    (fun _ h c => ⟨((h.1 c).2 main_v17 (by decide)).trans (tail_eq m c), h.2 c⟩)
    (θ_run_and (run_main m ρ) (unchanged m ρ))

end Cert.KernelIdeal.Score
-- ==== Proof.Ref.lean ====
module

public import proofs.«01_k».proof.Proof.Gen.ReferenceIdeal.Read
public import Idealize.ShloMosaic.Lib.Pointwise

/-!
The reference at one result entry: the features of a key, its score, the masked score, the largest
masked score of a batch row, and the softmax-weighted sum of the keys.
-/

@[expose] public section

set_option maxRecDepth 16384

noncomputable section

namespace Cert.ReferenceIdeal.Score

open Idealize.ShloMosaic Idealize.ShloMosaic.TcCoe Idealize.SL.Sem
open Cert.ReferenceIdeal Cert.ReferenceIdeal.Gen Cert.ReferenceIdeal.Read

/-- The 256 features of a key `x` under a query `t`: the key, the query, their product, their difference. -/
def feat (x t : Fin 64 → EReal) (k : Fin 256) : EReal :=
  if h : (k : ℕ) < 64 then x ⟨k, h⟩
  else if h : (k : ℕ) - 64 < 64 then t ⟨k - 64, h⟩
  else if h : (k : ℕ) - 64 - 64 < 64 then x ⟨k - 64 - 64, h⟩ * t ⟨k - 64 - 64, h⟩
  else x ⟨k - 64 - 64 - 64, by omega⟩ - t ⟨k - 64 - 64 - 64, by omega⟩

variable (a0 : FVec Ideal S4096x200x64 .f32) (a1 : FVec Ideal S4096x1x64 .f32)
  (a2 : IVec S4096 32) (a3 : FVec Ideal S256x128 .f32) (a4 : FVec Ideal S128 .f32)
  (a5 : FVec Ideal S128x1 .f32) (a6 : FVec Ideal S1 .f32)

/-- The score of key `l` of batch row `b`: one hidden layer over the features, and the output layer. -/
def rScore (b : Fin 4096) (l : Fin 200) : EReal :=
  ∑ h : Fin 128, max (∑ k : Fin 256, feat (fun e => a0 (ix3 b l e)) (fun e => a1 (ix3 b 0 e)) k * a3 (ix2 k h)
    + a4 (ix1 h)) 0 * a5 (ix2 h 0) + a6 (ix1 0)

/-- The score with the mask: zero in a row of length zero, else `-∞` from the row's length on. -/
def rMasked (b : Fin 4096) (l : Fin 200) : EReal :=
  Scalar.select (IntOp.cmpi .eq (a2 (ix1 b)) 0#32) (0 : EReal)
    (Scalar.select (IntOp.cmpi .slt (BitVec.ofNat 32 (l : ℕ)) (a2 (ix1 b))) (rScore a0 a1 a3 a4 a5 a6 b l) (⊥ : EReal))

/-- The largest masked score of a row. -/
def rMax (b : Fin 4096) : EReal :=
  max ⊥ (Finset.fold max ⊥ (fun l : Fin 200 => rMasked a0 a1 a2 a3 a4 a5 a6 b l) Finset.univ)

/-- The result: the keys' entries under the softmax of the masked scores. -/
def rResult (b : Fin 4096) (e : Fin 64) : EReal :=
  ∑ l : Fin 200, Ideal.div (Ideal.exp (rMasked a0 a1 a2 a3 a4 a5 a6 b l - rMax a0 a1 a2 a3 a4 a5 a6 b))
    (∑ l : Fin 200, Ideal.exp (rMasked a0 a1 a2 a3 a4 a5 a6 b l - rMax a0 a1 a2 a3 a4 a5 a6 b)) * a0 (ix3 b l e)

/-- The pattern of `-∞` denotes the least extended real. -/
theorem ofBits_neg_inf : Ideal.ofBits .f32 0xFF800000#32 = ⊥ := by simp [Ideal.ofBits, Ideal.ieee]

/-- The concatenated features at one entry. -/
theorem v3_at (b : Fin 4096) (l : Fin 200) (k : Fin 256) : val_main_v3 (F := Ideal) a0 a1 (ix3 b l k)
    = feat (fun e => a0 (ix3 b l e)) (fun e => a1 (ix3 b 0 e)) k := by
  unfold feat
  pointwise [val_main_v3, val_main_v2, val_main_v1, val_main_v0]

/-- The scores at one entry, over the features. -/
theorem v13_at (b : Fin 4096) (l : Fin 200) :
    val_main_v13 (F := Ideal) a0 a1 a3 a4 a5 a6 (ix2 b l) = rScore a0 a1 a3 a4 a5 a6 b l := by
  unfold rScore
  simp only [← v3_at]
  unfold val_main_v13 val_main_v12 val_main_v9 val_main_v8 val_main_v7 val_main_v4
  generalize val_main_v3 (F := Ideal) a0 a1 = F
  pointwise [val_main_v11, val_main_v10, val_main_v6, val_main_v5, val_main_call0_v0, val_main_call0_cst]

/-- The masked scores at one entry. -/
theorem v24_at (b : Fin 4096) (l : Fin 200) :
    val_main_v24 (F := Ideal) a0 a1 a2 a3 a4 a5 a6 (ix2 b l) = rMasked a0 a1 a2 a3 a4 a5 a6 b l := by
  unfold rMasked
  rw [← v13_at, ← ofBits_neg_inf]
  unfold val_main_v24 val_main_v20
  generalize val_main_v13 (F := Ideal) a0 a1 a3 a4 a5 a6 = F
  pointwise [val_main_v19, val_main_v18, val_main_v17, val_main_v16, val_main_v15, val_main_v14, val_main_cst,
    val_main_call1_v0, val_main_call1_v1, val_main_v21, val_main_v22, val_main_v23, val_main_c, val_main_call2_v0,
    val_main_call2_v1, val_main_call2_v2, val_main_cst_0]
  show Scalar.select _ (Ideal.ofBits .f32 0x00000000#32) (Scalar.select _ _ (Ideal.ofBits .f32 0xFF800000#32)) = _
  rw [Ideal.ofBits_zero_f32]

/-- The row's largest masked score. -/
theorem v27_at (b : Fin 4096) :
    val_main_v27 (F := Ideal) a0 a1 a2 a3 a4 a5 a6 (ix1 b) = rMax a0 a1 a2 a3 a4 a5 a6 b := by
  unfold rMax
  simp only [← v24_at]
  rw [← ofBits_neg_inf]
  unfold val_main_v27 val_main_v25
  generalize val_main_v24 (F := Ideal) a0 a1 a2 a3 a4 a5 a6 = F
  pointwise [val_main_v26, val_main_cst_1, val_main_cst_2]

/-- The reference's result at one entry. -/
theorem v36_at (b : Fin 4096) (e : Fin 64) :
    val_main_v36 (F := Ideal) a0 a1 a2 a3 a4 a5 a6 (ix2 b e) = rResult a0 a1 a2 a3 a4 a5 a6 b e := by
  unfold rResult
  simp only [← v24_at, ← v27_at]
  unfold val_main_v36 val_main_v35 val_main_v34 val_main_v33 val_main_v32 val_main_v31 val_main_v30 val_main_v29
    val_main_v28
  generalize val_main_v27 (F := Ideal) a0 a1 a2 a3 a4 a5 a6 = M
  generalize val_main_v24 (F := Ideal) a0 a1 a2 a3 a4 a5 a6 = F
  pointwise [val_main_cst_3]

end Cert.ReferenceIdeal.Score
-- ==== Proof.Reals.lean ====
module

public import Idealize.ShloMosaic.Lib.Pointwise

/-!
Sums and softmaxes of extended reals that are real numbers, and the comparisons behind the mask.
-/

@[expose] public section

set_option maxRecDepth 16384

noncomputable section

namespace Cert.Reals

open Idealize.ShloMosaic

/-- A sum of reals, taken in the extended reals, is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- The larger of two reals, taken in the extended reals, is the real one. -/
theorem coe_max (a b : ℝ) : max (a : EReal) (b : EReal) = ((max a b : ℝ) : EReal) :=
  (EReal.coe_strictMono.monotone.map_max).symm

/-- A quotient of reals by a nonzero real is the real quotient. -/
theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- A sum of 200 terms by stretches of 64, 64, 64, one and seven. -/
theorem sum_200 (f : Fin 200 → EReal) :
    ∑ k, f k = ∑ i : Fin 64, f ⟨i, by omega⟩ + (∑ i : Fin 64, f ⟨64 + i, by omega⟩ + (∑ i : Fin 64, f ⟨64 + (64 + i), by omega⟩
      + (∑ i : Fin 1, f ⟨64 + (64 + (64 + i)), by omega⟩ + ∑ i : Fin 7, f ⟨64 + (64 + (64 + (1 + i))), by omega⟩))) := by
  rw [show ∑ k, f k = ∑ k : Fin (64 + (64 + (64 + (1 + 7)))), f k from rfl]
  rw [Fin.sum_univ_add, Fin.sum_univ_add, Fin.sum_univ_add, Fin.sum_univ_add]
  rfl

/-- A sum of 256 terms by four stretches of 64. -/
theorem sum_256 (f : Fin 256 → EReal) :
    ∑ k, f k = ∑ i : Fin 64, f ⟨i, by omega⟩ + (∑ i : Fin 64, f ⟨64 + i, by omega⟩ + (∑ i : Fin 64, f ⟨64 + (64 + i), by omega⟩
      + ∑ i : Fin 64, f ⟨64 + (64 + (64 + i)), by omega⟩)) := by
  rw [show ∑ k, f k = ∑ k : Fin (64 + (64 + (64 + 64))), f k from rfl]
  rw [Fin.sum_univ_add, Fin.sum_univ_add, Fin.sum_univ_add]
  rfl

/-- The largest of values none of which is `+∞` and one of which is not `-∞` is a real number. -/
theorem max_real {n : ℕ} (s : Fin n → EReal) (ht : ∀ l, s l ≠ ⊤) (l0 : Fin n) (hb : s l0 ≠ ⊥) :
    ∃ c : ℝ, max ⊥ (Finset.fold max ⊥ s Finset.univ) = (c : EReal) := by
  rw [max_eq_right bot_le]
  have h1 : Finset.fold max ⊥ s Finset.univ ≠ ⊤ :=
    (Finset.fold_max_lt _ |>.mpr ⟨bot_lt_top, fun l _ => lt_top_iff_ne_top.mpr (ht l)⟩).ne
  have h2 : Finset.fold max ⊥ s Finset.univ ≠ ⊥ := by
    have : s l0 ≤ Finset.fold max ⊥ s Finset.univ := Finset.le_fold_max _ |>.mpr (.inr ⟨l0, Finset.mem_univ _, le_rfl⟩)
    exact fun h => hb (le_bot_iff.mp (h ▸ this))
  exact ⟨_, (EReal.coe_toReal h1 h2).symm⟩

/-- The weighted mean under weights `κ · e` divided one by one is the sum under the weights `e` divided once. -/
theorem mean_scale {n : ℕ} (w : Fin n → EReal) (e x : Fin n → ℝ) (κ : ℝ) (hκ : 0 < κ) (he : 0 < ∑ l, e l)
    (hw : ∀ l, w l = ((κ * e l : ℝ) : EReal)) :
    ∑ l, Ideal.div (w l) (∑ l, w l) * ((x l : ℝ) : EReal)
      = (∑ l, ((x l : ℝ) : EReal) * ((e l : ℝ) : EReal)) * Ideal.div 1 (∑ l, ((e l : ℝ) : EReal)) := by
  have hs : κ * ∑ l, e l ≠ 0 := (mul_pos hκ he).ne'
  simp only [hw, coe_sum, ← Finset.mul_sum]
  rw [show (1 : EReal) = ((1 : ℝ) : EReal) from rfl, div_real _ _ he.ne']
  simp only [div_real _ _ hs, ← EReal.coe_mul, coe_sum]
  rw [Finset.sum_mul]
  congr 1
  refine Finset.sum_congr rfl fun l _ => ?_
  field_simp

/-- The softmax of scores `s`, a real `r` with `exp r = exp β · e` or `-∞` with `e = 0` each, weighs values as the
    weights `e` divided once do. -/
theorem softmax_eq {n : ℕ} (s : Fin n → EReal) (e x : Fin n → ℝ) (β : ℝ) (l0 : Fin n) (h0 : s l0 ≠ ⊥)
    (h : ∀ l, (∃ r : ℝ, s l = (r : EReal) ∧ Real.exp r = Real.exp β * e l) ∨ (s l = ⊥ ∧ e l = 0)) :
    ∑ l, Ideal.div (Ideal.exp (s l - max ⊥ (Finset.fold max ⊥ s Finset.univ)))
        (∑ l, Ideal.exp (s l - max ⊥ (Finset.fold max ⊥ s Finset.univ))) * ((x l : ℝ) : EReal)
      = (∑ l, ((x l : ℝ) : EReal) * ((e l : ℝ) : EReal)) * Ideal.div 1 (∑ l, ((e l : ℝ) : EReal)) := by
  have ht : ∀ l, s l ≠ ⊤ := fun l => by
    rcases h l with ⟨r, hr, _⟩ | ⟨hr, _⟩ <;> rw [hr] <;> simp
  obtain ⟨c, hc⟩ := max_real s ht l0 h0
  rw [hc]
  have hpos : ∀ l, s l ≠ ⊥ → 0 < e l := fun l hl => by
    rcases h l with ⟨r, _, hr⟩ | ⟨hr, _⟩
    · exact pos_of_mul_pos_right (hr ▸ Real.exp_pos r) (Real.exp_pos β).le
    · exact absurd hr hl
  have hnn : ∀ l, 0 ≤ e l := fun l => by
    by_cases hl : s l = ⊥
    · rcases h l with ⟨r, hr, _⟩ | ⟨_, hr⟩
      · rw [hr] at hl; simp at hl
      · exact hr.ge
    · exact (hpos l hl).le
  refine mean_scale _ e x (Real.exp (β - c)) (Real.exp_pos _)
    (Finset.sum_pos' (fun l _ => hnn l) ⟨l0, Finset.mem_univ _, hpos l0 h0⟩) fun l => ?_
  rcases h l with ⟨r, hr, hx⟩ | ⟨hr, hx⟩
  · rw [hr, ← EReal.coe_sub, Ideal.exp_coe, Real.exp_sub, hx, Real.exp_sub]
    congr 1; ring
  · rw [hr, hx, EReal.bot_sub, Ideal.exp_bot]; simp

/-- A word equals zero. -/
theorem cmpi_eq_zero (q : BitVec 32) : IntOp.cmpi .eq q 0#32 = if q = 0#32 then 1#1 else 0#1 := by
  by_cases h : q = 0#32
  · simp [IntOp.cmpi, h]
  · have hb : (q == 0#32) = false := by simpa using h
    simp [IntOp.cmpi, h, hb]

/-- No key position is below zero. -/
theorem slt_zero (l : Fin 200) : IntOp.cmpi .slt (BitVec.ofNat 32 (l : ℕ)) 0#32 = 0#1 := by
  revert l; decide

/-- The first key position is below every positive length. -/
theorem zero_slt (q : BitVec 32) (h0 : q ≠ 0#32) (hq : IntOp.cmpi .sge q 0#32 = 1#1) :
    IntOp.cmpi .slt (BitVec.ofNat 32 0) q = 1#1 := by
  revert h0 hq
  simp only [IntOp.cmpi]
  intro h0 hq
  have h1 : (0#32).sle q = true := by
    cases hc : (0#32).sle q
    · simp [hc] at hq
    · rfl
  have : (0#32).slt q = true := by
    rw [BitVec.slt_iff_toInt_lt]
    rw [BitVec.sle_iff_toInt_le] at h1
    refine lt_of_le_of_ne h1 fun h => h0 ?_
    exact (BitVec.toInt_inj.mp h).symm
  simp [this]

/-- A comparison's bit is one or zero. -/
theorem bit_cases (c : BitVec 1) : c = 1#1 ∨ c = 0#1 := by revert c; decide

/-- A value whose magnitude is below `+∞` is a real number. -/
theorem real_of_olt (x : EReal) (h : Ideal.cmp .olt (max x (-x)) (Ideal.ofBits .f32 0x7F800000#32) = 1#1) :
    ∃ r : ℝ, x = (r : EReal) := by
  rw [show Ideal.ofBits .f32 0x7F800000#32 = ⊤ by simp [Ideal.ofBits, Ideal.ieee]] at h
  have hlt : max x (-x) < ⊤ := by
    by_contra hn
    simp [Ideal.cmp, hn] at h
  rw [max_lt_iff] at hlt
  refine ⟨x.toReal, (EReal.coe_toReal hlt.1.ne fun hb => ?_).symm⟩
  simp [hb] at hlt

end Cert.Reals
-- ==== Proof.Hidden.lean ====
module

public import proofs.«01_k».proof.Proof.Fold
public import proofs.«01_k».proof.Proof.Ref
public import proofs.«01_k».proof.Proof.Reals

/-!
On real arguments the score the kernel gives a key and the score the reference gives it are real
numbers, and they differ by the output layer's bias.
-/

@[expose] public section

set_option maxRecDepth 16384

noncomputable section

namespace Cert.Score

open Idealize.ShloMosaic Cert.Reals Cert.KernelIdeal.Score Cert.ReferenceIdeal.Score
open Cert.KernelIdeal

/-- A hidden unit before its rectifier, over the reals: key `X`, query `T`, weights `W`, bias `B`. -/
def hid (X T : Fin 64 → ℝ) (W : Fin 256 → Fin 128 → ℝ) (B : Fin 128 → ℝ) (h : Fin 128) : ℝ :=
  ∑ i : Fin 64, (X i * W ⟨i, by omega⟩ h + T i * W ⟨64 + i, by omega⟩ h + X i * T i * W ⟨128 + i, by omega⟩ h
    + (X i - T i) * W ⟨192 + i, by omega⟩ h) + B h

/-- The kernel's folded weights against its columns give the hidden unit. -/
theorem hid_kernel (X T : Fin 64 → ℝ) (W : Fin 256 → Fin 128 → ℝ) (B : Fin 128 → ℝ) (h : Fin 128) :
    ∑ k : Fin 200, foldW (fun i j => ((W i j : ℝ) : EReal)) (fun j => ((B j : ℝ) : EReal)) h k
      * zcol (fun e => ((T e : ℝ) : EReal)) (fun e => ((X e : ℝ) : EReal)) k = ((hid X T W B h : ℝ) : EReal) := by
  rw [sum_200]
  simp only [foldW, zcol]
  simp [← EReal.coe_mul, ← EReal.coe_add, ← EReal.coe_sub, coe_sum]
  rw [hid]
  simp only [← add_assoc, ← Finset.sum_add_distrib]
  exact congrArg (· + B h) (Finset.sum_congr rfl fun i _ => by ring)

/-- The reference's features against its weights, with the bias, give the hidden unit. -/
theorem hid_reference (X T : Fin 64 → ℝ) (W : Fin 256 → Fin 128 → ℝ) (B : Fin 128 → ℝ) (h : Fin 128) :
    ∑ k : Fin 256, feat (fun e => ((X e : ℝ) : EReal)) (fun e => ((T e : ℝ) : EReal)) k * ((W k h : ℝ) : EReal)
      + ((B h : ℝ) : EReal) = ((hid X T W B h : ℝ) : EReal) := by
  rw [sum_256]
  simp only [feat]
  simp [← EReal.coe_mul, ← EReal.coe_add, ← EReal.coe_sub, coe_sum]
  have e2 : ∀ i : Fin 64, (⟨64 + (64 + (i : ℕ)), by omega⟩ : Fin 256) = ⟨128 + i, by omega⟩ :=
    fun i => Fin.ext (by show 64 + (64 + (i : ℕ)) = 128 + i; omega)
  have e3 : ∀ i : Fin 64, (⟨64 + (64 + (64 + (i : ℕ))), by omega⟩ : Fin 256) = ⟨192 + i, by omega⟩ :=
    fun i => Fin.ext (by show 64 + (64 + (64 + (i : ℕ))) = 192 + i; omega)
  rw [hid]
  simp only [e2, e3, ← add_assoc, ← Finset.sum_add_distrib]

/-- The score of a key over the reals, without the output layer's bias. -/
def score (X T : Fin 64 → ℝ) (W : Fin 256 → Fin 128 → ℝ) (B V : Fin 128 → ℝ) : ℝ :=
  ∑ h : Fin 128, max (hid X T W B h) 0 * V h

section
variable (x0 : S4096x200x64.Idx → ℝ) (x1 : S4096x1x64.Idx → ℝ) (x3 : S256x128.Idx → ℝ) (x4 : S128.Idx → ℝ)
  (x5 : S128x1.Idx → ℝ) (x6 : S1.Idx → ℝ)

/-- The score of key `l` of batch row `b`, over real arguments. -/
def argScore (b : Fin 4096) (l : Fin 200) : ℝ :=
  score (fun e => x0 (ix3 b l e)) (fun e => x1 (ix3 b 0 e)) (fun i j => x3 (ix2 i j)) (fun j => x4 (ix1 j))
    (fun h => x5 (ix2 h 0))

/-- The kernel's score is the real score. -/
theorem kScore_real (b : Fin 4096) (l : Fin 200) :
    kScore (fun i => ((x0 i : ℝ) : EReal)) (fun i => ((x1 i : ℝ) : EReal)) (fun i => ((x3 i : ℝ) : EReal))
      (fun i => ((x4 i : ℝ) : EReal)) (fun i => ((x5 i : ℝ) : EReal)) b l = ((argScore x0 x1 x3 x4 x5 b l : ℝ) : EReal) := by
  rw [kScore, argScore, score, ← coe_sum]
  refine Finset.sum_congr rfl fun h _ => ?_
  rw [EReal.coe_mul, ← coe_max, ← hid_kernel]
  rfl

/-- The reference's score is the real score and the output layer's bias. -/
theorem rScore_real (b : Fin 4096) (l : Fin 200) :
    rScore (fun i => ((x0 i : ℝ) : EReal)) (fun i => ((x1 i : ℝ) : EReal)) (fun i => ((x3 i : ℝ) : EReal))
      (fun i => ((x4 i : ℝ) : EReal)) (fun i => ((x5 i : ℝ) : EReal)) (fun i => ((x6 i : ℝ) : EReal)) b l
      = ((argScore x0 x1 x3 x4 x5 b l + x6 (ix1 0) : ℝ) : EReal) := by
  rw [rScore, argScore, score, EReal.coe_add, ← coe_sum]
  refine congrArg (· + ((x6 (ix1 0) : ℝ) : EReal)) (Finset.sum_congr rfl fun h _ => ?_)
  rw [EReal.coe_mul, ← coe_max, ← hid_reference]
  rfl

end

end Cert.Score
-- ==== Proof.Equation.lean ====
module

public import proofs.«01_k».proof.Proof.Hidden

/-!
The two results at one entry are one number, on real arguments and lengths that are not negative.
-/

@[expose] public section

set_option maxRecDepth 16384

noncomputable section

namespace Cert.Score

open Idealize.ShloMosaic Cert.Reals Cert.KernelIdeal.Score Cert.ReferenceIdeal.Score
open Cert.KernelIdeal

section
variable (x0 : S4096x200x64.Idx → ℝ) (x1 : S4096x1x64.Idx → ℝ) (a2 : IVec S4096 32) (x3 : S256x128.Idx → ℝ)
  (x4 : S128.Idx → ℝ) (x5 : S128x1.Idx → ℝ) (x6 : S1.Idx → ℝ)

/-- The weight of a key over the reals: one in a row of length zero, else the exponential of its score up to the
    row's length and zero from there on. -/
def argWeight (b : Fin 4096) (l : Fin 200) : ℝ :=
  if a2 (ix1 b) = 0#32 then 1
  else if IntOp.cmpi .slt (BitVec.ofNat 32 (l : ℕ)) (a2 (ix1 b)) = 1#1 then Real.exp (argScore x0 x1 x3 x4 x5 b l) else 0

/-- The kernel's weight is the real weight. -/
theorem kWeight_real (b : Fin 4096) (l : Fin 200) :
    kWeight (fun i => ((x0 i : ℝ) : EReal)) (fun i => ((x1 i : ℝ) : EReal)) a2 (fun i => ((x3 i : ℝ) : EReal))
      (fun i => ((x4 i : ℝ) : EReal)) (fun i => ((x5 i : ℝ) : EReal)) b l
      = ((argWeight x0 x1 a2 x3 x4 x5 b l : ℝ) : EReal) := by
  rw [kWeight, kScore_real, weight, argWeight, cmpi_eq_zero]
  by_cases hq : a2 (ix1 b) = 0#32
  · rw [if_pos hq, if_pos hq, hq, slt_zero]
    simp [Scalar.select]
  · rw [if_neg hq, if_neg hq]
    rcases bit_cases (IntOp.cmpi .slt (BitVec.ofNat 32 (l : ℕ)) (a2 (ix1 b))) with h | h <;> simp [h, Scalar.select]

/-- The reference's masked score in a row of length zero. -/
theorem rMasked_zero (b : Fin 4096) (l : Fin 200) (hq : a2 (ix1 b) = 0#32) :
    rMasked (fun i => ((x0 i : ℝ) : EReal)) (fun i => ((x1 i : ℝ) : EReal)) a2 (fun i => ((x3 i : ℝ) : EReal))
      (fun i => ((x4 i : ℝ) : EReal)) (fun i => ((x5 i : ℝ) : EReal)) (fun i => ((x6 i : ℝ) : EReal)) b l
      = ((0 : ℝ) : EReal) := by
  rw [rMasked, cmpi_eq_zero, if_pos hq]
  simp [Scalar.select]

/-- The reference's masked score in a row of another length. -/
theorem rMasked_ne (b : Fin 4096) (l : Fin 200) (hq : a2 (ix1 b) ≠ 0#32) :
    rMasked (fun i => ((x0 i : ℝ) : EReal)) (fun i => ((x1 i : ℝ) : EReal)) a2 (fun i => ((x3 i : ℝ) : EReal))
      (fun i => ((x4 i : ℝ) : EReal)) (fun i => ((x5 i : ℝ) : EReal)) (fun i => ((x6 i : ℝ) : EReal)) b l
      = if IntOp.cmpi .slt (BitVec.ofNat 32 (l : ℕ)) (a2 (ix1 b)) = 1#1
        then ((argScore x0 x1 x3 x4 x5 b l + x6 (ix1 0) : ℝ) : EReal) else ⊥ := by
  rw [rMasked, cmpi_eq_zero, if_neg hq, rScore_real]
  rcases bit_cases (IntOp.cmpi .slt (BitVec.ofNat 32 (l : ℕ)) (a2 (ix1 b))) with h | h <;> simp [h, Scalar.select]

/-- On real arguments the kernel's result and the reference's agree at every entry of a row whose length is not
    negative. -/
theorem result_real (b : Fin 4096) (e : Fin 64) (hq : IntOp.cmpi .sge (a2 (ix1 b)) 0#32 = 1#1) :
    rResult (fun i => ((x0 i : ℝ) : EReal)) (fun i => ((x1 i : ℝ) : EReal)) a2 (fun i => ((x3 i : ℝ) : EReal))
      (fun i => ((x4 i : ℝ) : EReal)) (fun i => ((x5 i : ℝ) : EReal)) (fun i => ((x6 i : ℝ) : EReal)) b e
    = kResult (fun i => ((x0 i : ℝ) : EReal)) (fun i => ((x1 i : ℝ) : EReal)) a2 (fun i => ((x3 i : ℝ) : EReal))
      (fun i => ((x4 i : ℝ) : EReal)) (fun i => ((x5 i : ℝ) : EReal)) b e := by
  rw [kResult]
  simp only [kWeight_real]
  by_cases h0 : a2 (ix1 b) = 0#32
  · refine softmax_eq (fun l => rMasked _ _ a2 _ _ _ _ b l) (fun l => argWeight x0 x1 a2 x3 x4 x5 b l)
      (fun l => x0 (ix3 b l e)) 0 0 ?_ fun l => .inl ⟨0, rMasked_zero x0 x1 a2 x3 x4 x5 x6 b l h0, ?_⟩
    · simp [rMasked_zero x0 x1 a2 x3 x4 x5 x6 b 0 h0]
    · simp [argWeight, h0]
  · refine softmax_eq (fun l => rMasked _ _ a2 _ _ _ _ b l) (fun l => argWeight x0 x1 a2 x3 x4 x5 b l)
      (fun l => x0 (ix3 b l e)) (x6 (ix1 0)) 0 ?_ fun l => ?_
    · have hz := zero_slt (a2 (ix1 b)) h0 hq
      show rMasked _ _ a2 _ _ _ _ b 0 ≠ ⊥
      rw [rMasked_ne x0 x1 a2 x3 x4 x5 x6 b 0 h0]
      refine (if_pos hz).trans_ne ?_
      exact EReal.coe_ne_bot _
    · show (∃ r : ℝ, rMasked _ _ a2 _ _ _ _ b l = _ ∧ _) ∨ (rMasked _ _ a2 _ _ _ _ b l = ⊥ ∧ _)
      rw [rMasked_ne x0 x1 a2 x3 x4 x5 x6 b l h0, argWeight, if_neg h0]
      by_cases hl : IntOp.cmpi .slt (BitVec.ofNat 32 (l : ℕ)) (a2 (ix1 b)) = 1#1
      · rw [if_pos hl, if_pos hl]
        exact .inl ⟨_, rfl, by rw [Real.exp_add, mul_comm]⟩
      · rw [if_neg hl, if_neg hl]
        exact .inr ⟨rfl, rfl⟩

end

/-- The two results agree entry by entry on arguments each entry of which is a real number, in a row whose length is
    not negative. -/
theorem result_eq (a0 : FVec Ideal S4096x200x64 .f32) (a1 : FVec Ideal S4096x1x64 .f32) (a2 : IVec S4096 32)
    (a3 : FVec Ideal S256x128 .f32) (a4 : FVec Ideal S128 .f32) (a5 : FVec Ideal S128x1 .f32) (a6 : FVec Ideal S1 .f32)
    (h0 : ∀ i, ∃ r : ℝ, a0 i = (r : EReal)) (h1 : ∀ i, ∃ r : ℝ, a1 i = (r : EReal))
    (h2 : ∀ i, IntOp.cmpi .sge (a2 i) 0#32 = 1#1)
    (h3 : ∀ i, ∃ r : ℝ, a3 i = (r : EReal)) (h4 : ∀ i, ∃ r : ℝ, a4 i = (r : EReal))
    (h5 : ∀ i, ∃ r : ℝ, a5 i = (r : EReal)) (h6 : ∀ i, ∃ r : ℝ, a6 i = (r : EReal)) (b : Fin 4096) (e : Fin 64) :
    rResult a0 a1 a2 a3 a4 a5 a6 b e = kResult a0 a1 a2 a3 a4 a5 b e := by
  choose x0 e0 using h0
  choose x1 e1 using h1
  choose x3 e3 using h3
  choose x4 e4 using h4
  choose x5 e5 using h5
  choose x6 e6 using h6
  obtain rfl : a0 = fun i => ((x0 i : ℝ) : EReal) := funext e0
  obtain rfl : a1 = fun i => ((x1 i : ℝ) : EReal) := funext e1
  obtain rfl : a3 = fun i => ((x3 i : ℝ) : EReal) := funext e3
  obtain rfl : a4 = fun i => ((x4 i : ℝ) : EReal) := funext e4
  obtain rfl : a5 = fun i => ((x5 i : ℝ) : EReal) := funext e5
  obtain rfl : a6 = fun i => ((x6 i : ℝ) : EReal) := funext e6
  exact result_real x0 x1 a2 x3 x4 x5 x6 b e (h2 _)

end Cert.Score
-- ==== Proof.Range.lean ====
module

public import proofs.«01_k».proof.Pre_in_range
public import proofs.«01_k».proof.Proof.Reals

/-!
What the precondition says of the arguments: every entry of a floating-point argument is a real
number, and no length is negative.
-/

@[expose] public section

set_option maxRecDepth 16384

noncomputable section

namespace Cert.Range

open Idealize.ShloMosaic Cert.Reals Cert.Pre_in_range

/-- The shapes the precondition broadcasts its scalars to. -/
theorem facts : Cert.Pre_in_range.Facts where
  bcast_S_S4096x200x64 := by decide
  bcast_S_S4096x1x64 := by decide
  bcast_S_S4096 := by decide
  bcast_S_S256x128 := by decide
  bcast_S_S128 := by decide
  bcast_S_S128x1 := by decide
  bcast_S_S1 := by decide

/-- An array whose magnitudes are all below `+∞` holds real numbers. -/
theorem real_of_mask {s : Shape} (x : FVec Ideal s .f32) (h : S_.BroadcastsInDim s (![] : Fin 0 → Fin s.rank))
    (hx : cmpf .olt (Host.absf x) (broadcastInDim s ![] h (constant (F := Ideal) S_ .f32 0x7F800000#32)) = fun _ => 1#1)
    (i : s.Idx) : ∃ r : ℝ, x i = (r : EReal) :=
  real_of_olt (x i) (congrFun hx i)

section
variable [Cert.Pre_in_range.Facts]
  (a0 : FVec Ideal S4096x200x64 .f32) (a1 : FVec Ideal S4096x1x64 .f32) (a2 : IVec S4096 32)
  (a3 : FVec Ideal S256x128 .f32) (a4 : FVec Ideal S128 .f32) (a5 : FVec Ideal S128x1 .f32) (a6 : FVec Ideal S1 .f32)

/-- The keys are real. -/
theorem real_0 (h : (fn (F := Ideal) a0 a1 a2 a3 a4 a5 a6).1 = fun _ => 1#1) (i : S4096x200x64.Idx) :
    ∃ r : ℝ, a0 i = (r : EReal) := real_of_mask a0 Facts.bcast_S_S4096x200x64 h i

/-- The queries are real. -/
theorem real_1 (h : (fn (F := Ideal) a0 a1 a2 a3 a4 a5 a6).2.1 = fun _ => 1#1) (i : S4096x1x64.Idx) :
    ∃ r : ℝ, a1 i = (r : EReal) := real_of_mask a1 Facts.bcast_S_S4096x1x64 h i

/-- No length is negative. -/
theorem nonneg_2 (h : (fn (F := Ideal) a0 a1 a2 a3 a4 a5 a6).2.2.1 = fun _ => 1#1) (i : S4096.Idx) :
    IntOp.cmpi .sge (a2 i) 0#32 = 1#1 := congrFun h i

/-- The hidden layer's weights are real. -/
theorem real_3 (h : (fn (F := Ideal) a0 a1 a2 a3 a4 a5 a6).2.2.2.1 = fun _ => 1#1) (i : S256x128.Idx) :
    ∃ r : ℝ, a3 i = (r : EReal) := real_of_mask a3 Facts.bcast_S_S256x128 h i

/-- The hidden layer's biases are real. -/
theorem real_4 (h : (fn (F := Ideal) a0 a1 a2 a3 a4 a5 a6).2.2.2.2.1 = fun _ => 1#1) (i : S128.Idx) :
    ∃ r : ℝ, a4 i = (r : EReal) := real_of_mask a4 Facts.bcast_S_S128 h i

/-- The output layer's weights are real. -/
theorem real_5 (h : (fn (F := Ideal) a0 a1 a2 a3 a4 a5 a6).2.2.2.2.2.1 = fun _ => 1#1) (i : S128x1.Idx) :
    ∃ r : ℝ, a5 i = (r : EReal) := real_of_mask a5 Facts.bcast_S_S128x1 h i

/-- The output layer's bias is real. -/
theorem real_6 (h : (fn (F := Ideal) a0 a1 a2 a3 a4 a5 a6).2.2.2.2.2.2 = fun _ => 1#1) (i : S1.Idx) :
    ∃ r : ℝ, a6 i = (r : EReal) := real_of_mask a6 Facts.bcast_S_S1 h i

end

end Cert.Range
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Result
public import proofs.«01_k».proof.Proof.Equation
public import proofs.«01_k».proof.Proof.Range
public import Idealize.ShloMosaic.Adequacy
public import Idealize.ShloMosaic.Lib.Claim
public import Idealize.ShloMosaic.Init

@[expose] public section

noncomputable section

namespace Cert.Proof

open Idealize.ShloMosaic Idealize.SL.Sem Cert.Kernel

/-- The reference runs, leaves its arguments alone, and its counters are zero: it has none. -/
theorem frame_reference : Cert.quiescent_ReferenceIdeal := by
  intro m g _
  exact (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- On arguments in range the reference's result is the kernel's: real entries, no negative length, and the two
    memories holding the same arguments. -/
theorem results_agree (m : (ℓ : Loc Cert.KernelIdeal.nD Cert.KernelIdeal.τ Cert.KernelIdeal.sig) → Buf (Elt Ideal) ℓ)
    (c : Dev Cert.KernelIdeal.nD) (hpre : Cert.Pre_KernelIdeal_in_range (hPre_in_range := Cert.Range.facts) m) :
    Cert.ReferenceIdeal.Read.val_main_v36 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      = Cert.KernelIdeal.Score.outT m c := by
  haveI := Cert.Range.facts
  obtain ⟨h0, h1, h2, h3, h4, h5, h6⟩ := hpre c
  refine funext fun (i : Cert.KernelIdeal.S4096x64.Idx) => ?_
  idx_vars i
  rw [Cert.ReferenceIdeal.Score.v36_at]
  refine Eq.trans ?_ (Cert.KernelIdeal.Score.outT_at m c i0 i1).symm
  exact Cert.Score.result_eq _ _ _ _ _ _ _ (Cert.Range.real_0 _ _ _ _ _ _ _ h0) (Cert.Range.real_1 _ _ _ _ _ _ _ h1)
    (Cert.Range.nonneg_2 _ _ _ _ _ _ _ h2) (Cert.Range.real_3 _ _ _ _ _ _ _ h3) (Cert.Range.real_4 _ _ _ _ _ _ _ h4)
    (Cert.Range.real_5 _ _ _ _ _ _ _ h5) (Cert.Range.real_6 _ _ _ _ _ _ _ h6) i0 i1

/-- The kernel and the reference compute one result on arguments in range. -/
theorem algebraic : Cert.algebraic_KernelIdeal_ReferenceIdeal_pre_in_range (hPre_in_range := Cert.Range.facts) := by
  intro m g m' g' hpre hagree
  refine ⟨fun c => Cert.KernelIdeal.Score.outT m c, Cert.KernelIdeal.Score.run m g, ?_⟩
  refine (θ_run Cert.ReferenceIdeal.defs _ _).mono (fun r h c => ⟨(h c).1.trans ?_, (h c).2⟩)
    (Cert.ReferenceIdeal.Value.run (F := Ideal) m' g')
  obtain ⟨e0, e1, e2, e3, e4, e5, e6⟩ := hagree c
  refine (Cert.ReferenceIdeal.Read.val_main_v36_eq m' c).trans ?_
  rw [e0, e1, e2, e3, e4, e5, e6]
  exact results_agree m c hpre

/-- Every claim: the frames of the three programs, the kernel's text as its printed one, and the equation. -/
theorem claim : Cert.Claim :=
  ⟨Cert.Kernel.Gen.facts, Cert.KernelIdeal.Gen.facts, Cert.ReferenceIdeal.Gen.facts, Cert.Range.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial, trivial,
    algebraic⟩

end Cert.Proof

end
